-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x64x4096 : Shape := ⟨3, ![256, 64, 4096]⟩
abbrev S_ : Shape := ⟨0, ![]⟩

class Facts : Prop where
  bcast_S_S256x64x4096 : S_.BroadcastsInDim S256x64x4096 (![] : Fin 0 → Fin S256x64x4096.rank)
  reducesTo_S256x64x4096_S_d0_1_2 : S256x64x4096.ReducesTo [0, 1, 2] S_
  h_S_ : 0 < S_.numel

variable [Facts]

def fn {F : FTy → Type} [FloatOps F] (main_arg0 : FVec F S256x64x4096 .f32) : IVec S_ 1 :=
  let main_v0 : FVec F S256x64x4096 .f32 := Host.absf main_arg0
  let main_cst : FVec F S_ .f32 := constant S_ .f32 0x7F800000#32
  let main_v1 : FVec F S256x64x4096 .f32 := broadcastInDim S256x64x4096 ![] bcast_S_S256x64x4096 main_cst
  let main_v2 : IVec S256x64x4096 1 := cmpf .olt main_v0 main_v1
  let main_c : IVec S_ 1 := constantI S_ 1 1#1
  let main_v3 : IVec S_ 1 := (fun x v => Host.reduce IntOp.andi x v reducesTo_S256x64x4096_S_d0_1_2 h_S_) main_v2 main_c
  main_v3
-- ==== Kernel.lean ====
abbrev S256x64x4096 : Shape := ⟨3, ![256, 64, 4096]⟩
abbrev S8x64x4096 : Shape := ⟨3, ![8, 64, 4096]⟩
abbrev S64x8x128 : Shape := ⟨3, ![64, 8, 128]⟩
abbrev S64x8x64 : Shape := ⟨3, ![64, 8, 64]⟩
abbrev S8x64 : Shape := ⟨2, ![8, 64]⟩
abbrev S8x64x1 : Shape := ⟨3, ![8, 64, 1]⟩
abbrev S1x64x4096 : Shape := ⟨3, ![1, 64, 4096]⟩
abbrev S64x4096 : Shape := ⟨2, ![64, 4096]⟩
abbrev S64x64 : Shape := ⟨2, ![64, 64]⟩
abbrev S64x1x64 : Shape := ⟨3, ![64, 1, 64]⟩
abbrev S8 : Shape := ⟨1, ![8]⟩
abbrev S1x8x1 : Shape := ⟨3, ![1, 8, 1]⟩
abbrev S1x1x128 : Shape := ⟨3, ![1, 1, 128]⟩
abbrev S64x1x1 : Shape := ⟨3, ![64, 1, 1]⟩
abbrev S1x8x64 : Shape := ⟨3, ![1, 8, 64]⟩
abbrev S1x8x128 : Shape := ⟨3, ![1, 8, 128]⟩
abbrev S1x8 : Shape := ⟨2, ![1, 8]⟩
abbrev S8x128 : Shape := ⟨2, ![8, 128]⟩
abbrev S64x8 : Shape := ⟨2, ![64, 8]⟩
abbrev S64x8x1 : Shape := ⟨3, ![64, 8, 1]⟩
abbrev S8x64x64 : Shape := ⟨3, ![8, 64, 64]⟩
abbrev S1x64x64 : Shape := ⟨3, ![1, 64, 64]⟩

abbrev nBuf : Space → Nat
  | .hbm => 2
  | .vmem => 6
  | .smem => 0
  | _ => 0

abbrev bufTy : (tb : Table) → Fin (tcTables nBuf tb) → BufTy
  | .hbm, ⟨0, _⟩ => ⟨S256x64x4096, .f32⟩
  | .hbm, ⟨1, _⟩ => ⟨S256x64x4096, .f32⟩
  | .local _ .vmem, ⟨0, _⟩ => ⟨S8x64x4096, .f32⟩
  | .local _ .vmem, ⟨1, _⟩ => ⟨S8x64x4096, .f32⟩
  | .local _ .vmem, ⟨2, _⟩ => ⟨S8x64x4096, .f32⟩
  | .local _ .vmem, ⟨3, _⟩ => ⟨S8x64x4096, .f32⟩
  | .local _ .vmem, ⟨4, _⟩ => ⟨S64x8x128, .f32⟩
  | .local _ .vmem, ⟨5, _⟩ => ⟨S64x8x64, .f32⟩
  | _, _ => ⟨S256x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c64_i32 : BitVec 32 := 64#32
  let v141 : BitVec 32 := Scalar.addi c0_i32 c64_i32
  let c1_i32 : BitVec 32 := 1#32
  ⟨c0_i32, v141, c1_i32⟩
def k0_off1 (k0_t1 : Fin k0_t1_loop.trips) : Fin 3 → Nat :=
  let c63_i32_74 : BitVec 32 := 63#32
  let c0_i32 : BitVec 32 := 0#32
  let c1_i32 : BitVec 32 := 1#32
  let arg5 : BitVec 32 := Scf.iv c0_i32 c1_i32 k0_t1
  let v210 : BitVec 32 := Scalar.subi c63_i32_74 arg5
  let v218 : Index := Scalar.indexCast v210
  let c0_77 : Index := 0#32
  let c0_78 : Index := 0#32
  ![v218.toNat, 0, 0]
def k0_off2 (k0_t1 : Fin k0_t1_loop.trips) : Fin 3 → Nat :=
  let c63_i32_74 : BitVec 32 := 63#32
  let c0_i32 : BitVec 32 := 0#32
  let c1_i32 : BitVec 32 := 1#32
  let arg5 : BitVec 32 := Scf.iv c0_i32 c1_i32 k0_t1
  let v210 : BitVec 32 := Scalar.subi c63_i32_74 arg5
  let c1_i32_75 : BitVec 32 := 1#32
  let v211 : BitVec 32 := Scalar.subi v210 c1_i32_75
  let c0_i32_76 : BitVec 32 := 0#32
  let v212 : BitVec 32 := Scalar.maxsi v211 c0_i32_76
  let v235 : Index := Scalar.indexCast v212
  let c0_82 : Index := 0#32
  let c0_83 : Index := 0#32
  ![v235.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S256x64x4096 : Shape := ⟨3, ![256, 64, 4096]⟩
abbrev S_ : Shape := ⟨0, ![]⟩
abbrev S256x64 : Shape := ⟨2, ![256, 64]⟩
abbrev S256x64x1 : Shape := ⟨3, ![256, 64, 1]⟩
abbrev S256x64x64 : Shape := ⟨3, ![256, 64, 64]⟩
abbrev S64x64 : Shape := ⟨2, ![64, 64]⟩
abbrev S1x64x64 : Shape := ⟨3, ![1, 64, 64]⟩
abbrev S256 : Shape := ⟨1, ![256]⟩
abbrev S256x1x1 : Shape := ⟨3, ![256, 1, 1]⟩
abbrev S64 : Shape := ⟨1, ![64]⟩
abbrev S1x64x1 : Shape := ⟨3, ![1, 64, 1]⟩
abbrev S256x64x128 : Shape := ⟨3, ![256, 64, 128]⟩
abbrev S256x1x128 : Shape := ⟨3, ![256, 1, 128]⟩
abbrev S1x1x64 : Shape := ⟨3, ![1, 1, 64]⟩
abbrev S256x1x64 : Shape := ⟨3, ![256, 1, 64]⟩

abbrev nBuf : Space → Nat
  | .hbm => 191
  | .vmem => 0
  | .smem => 0
  | _ => 0

abbrev hbmTy0_0 (i : Nat) : BufTy := match i % 128 with
  | 0 => ⟨S256x64x4096, .f32⟩
  | 1 => ⟨S_, .f32⟩
  | 2 => ⟨S256x64, .f32⟩
  | 3 => ⟨S256x64x1, .f32⟩
  | 4 => ⟨S_, .f32⟩
  | 5 => ⟨S256x64x1, .f32⟩
  | 6 => ⟨S256x64x1, .f32⟩
  | 7 => ⟨S256x64x4096, .f32⟩
  | 8 => ⟨S256x64x4096, .f32⟩
  | 9 => ⟨S256x64x64, .f32⟩
  | 10 => ⟨S_, .f32⟩
  | 11 => ⟨S256x64x64, .f32⟩
  | 12 => ⟨S256x64x64, .f32⟩
  | 13 => ⟨S64x64, .i32⟩
  | 14 => ⟨S64x64, .i32⟩
  | 15 => ⟨S_, .i32⟩
  | 16 => ⟨S64x64, .i32⟩
  | 17 => ⟨S64x64, .i32⟩
  | 18 => ⟨S64x64, .i1⟩
  | 19 => ⟨S64x64, .f32⟩
  | 20 => ⟨S1x64x64, .f32⟩
  | 21 => ⟨S64x64, .i32⟩
  | 22 => ⟨S64x64, .i32⟩
  | 23 => ⟨S_, .i32⟩
  | 24 => ⟨S64x64, .i32⟩
  | 25 => ⟨S64x64, .i32⟩
  | 26 => ⟨S64x64, .i1⟩
  | 27 => ⟨S_, .f32⟩
  | 28 => ⟨S256x64x64, .f32⟩
  | 29 => ⟨S256x64x64, .i1⟩
  | 30 => ⟨S256x64x64, .f32⟩
  | 31 => ⟨S_, .f32⟩
  | 32 => ⟨S256, .f32⟩
  | 33 => ⟨S256x1x1, .f32⟩
  | 34 => ⟨S_, .f32⟩
  | 35 => ⟨S256x1x1, .f32⟩
  | 36 => ⟨S256x1x1, .f32⟩
  | 37 => ⟨S256x64x64, .f32⟩
  | 38 => ⟨S256x64x64, .f32⟩
  | 39 => ⟨S256x64x64, .f32⟩
  | 40 => ⟨S256, .f32⟩
  | 41 => ⟨S256x1x1, .f32⟩
  | 42 => ⟨S_, .f32⟩
  | 43 => ⟨S256x1x1, .f32⟩
  | 44 => ⟨S256x1x1, .f32⟩
  | 45 => ⟨S256x1x1, .f32⟩
  | 46 => ⟨S256x1x1, .f32⟩
  | 47 => ⟨S256x1x1, .f32⟩
  | 48 => ⟨S_, .f32⟩
  | 49 => ⟨S256x1x1, .f32⟩
  | 50 => ⟨S256x1x1, .f32⟩
  | 51 => ⟨S256x1x1, .f32⟩
  | 52 => ⟨S_, .f32⟩
  | 53 => ⟨S256x1x1, .f32⟩
  | 54 => ⟨S256x1x1, .f32⟩
  | 55 => ⟨S256x1x1, .f32⟩
  | 56 => ⟨S_, .f32⟩
  | 57 => ⟨S256x1x1, .f32⟩
  | 58 => ⟨S256x1x1, .f32⟩
  | 59 => ⟨S256x64x64, .f32⟩
  | 60 => ⟨S256x64x64, .f32⟩
  | 61 => ⟨S_, .f32⟩
  | 62 => ⟨S256x1x1, .f32⟩
  | 63 => ⟨S256x1x1, .f32⟩
  | 64 => ⟨S256x64x64, .f32⟩
  | 65 => ⟨S256x64x64, .f32⟩
  | 66 => ⟨S256x64x64, .f32⟩
  | 67 => ⟨S64, .i32⟩
  | 68 => ⟨S1x64x1, .i32⟩
  | 69 => ⟨S64x64, .i32⟩
  | 70 => ⟨S64x64, .i32⟩
  | 71 => ⟨S_, .i32⟩
  | 72 => ⟨S64x64, .i32⟩
  | 73 => ⟨S64x64, .i32⟩
  | 74 => ⟨S64x64, .i1⟩
  | 75 => ⟨S64x64, .f32⟩
  | 76 => ⟨S256x64x64, .f32⟩
  | 77 => ⟨S256x64x128, .f32⟩
  | 78 => ⟨S_, .i32⟩
  | 79 => ⟨S_, .i32⟩
  | 80 => ⟨S1x64x1, .i32⟩
  | 81 => ⟨S_, .i32⟩
  | 82 => ⟨S_, .i32⟩
  | 83 => ⟨S256x64x128, .f32⟩
  | 84 => ⟨S_, .i32⟩
  | 85 => ⟨S_, .i1⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S256x64x1, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S256x1x128, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S256x1x1, .f32⟩
  | 115 => ⟨S256x1x128, .f32⟩
  | 116 => ⟨S256x1x128, .f32⟩
  | 117 => ⟨S_, .i32⟩
  | 118 => ⟨S1x64x1, .i32⟩
  | 119 => ⟨S1x64x1, .i1⟩
  | 120 => ⟨S256x64x128, .f32⟩
  | 121 => ⟨S256x64x128, .f32⟩
  | 122 => ⟨S256x64x128, .f32⟩
  | 123 => ⟨S256x64x128, .f32⟩
  | 124 => ⟨S256x64x128, .i1⟩
  | 125 => ⟨S256x64x128, .f32⟩
  | 126 => ⟨S256x64x128, .f32⟩
  | 127 => ⟨S_, .i32⟩
  | _ => ⟨S256x64x4096, .f32⟩

abbrev hbmTy0_1 (i : Nat) : BufTy := match i % 128 with
  | 0 => ⟨S_, .i32⟩
  | 1 => ⟨S256x64x64, .f32⟩
  | 2 => ⟨S64, .i32⟩
  | 3 => ⟨S1x64x1, .i32⟩
  | 4 => ⟨S64, .i32⟩
  | 5 => ⟨S1x1x64, .i32⟩
  | 6 => ⟨S_, .f32⟩
  | 7 => ⟨S256x64x64, .f32⟩
  | 8 => ⟨S_, .i32⟩
  | 9 => ⟨S_, .i32⟩
  | 10 => ⟨S1x64x1, .i32⟩
  | 11 => ⟨S1x1x64, .i32⟩
  | 12 => ⟨S_, .i32⟩
  | 13 => ⟨S_, .i32⟩
  | 14 => ⟨S256x64x64, .f32⟩
  | 15 => ⟨S256x64x64, .f32⟩
  | 16 => ⟨S_, .i32⟩
  | 17 => ⟨S_, .i1⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S256x64x1, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S256x1x1, .f32⟩
  | 38 => ⟨S_, .i32⟩
  | 39 => ⟨S1x64x1, .i32⟩
  | 40 => ⟨S1x64x1, .i1⟩
  | 41 => ⟨S256x1x1, .f32⟩
  | 42 => ⟨S256x64x1, .f32⟩
  | 43 => ⟨S256x64x1, .f32⟩
  | 44 => ⟨S_, .f32⟩
  | 45 => ⟨S_, .f32⟩
  | 46 => ⟨S256x64x1, .i1⟩
  | 47 => ⟨S256x64x1, .f32⟩
  | 48 => ⟨S256x64x1, .f32⟩
  | 49 => ⟨S256x1x64, .f32⟩
  | 50 => ⟨S256x64x64, .f32⟩
  | 51 => ⟨S256x64x64, .f32⟩
  | 52 => ⟨S256x64x64, .f32⟩
  | 53 => ⟨S256x64x64, .f32⟩
  | 54 => ⟨S_, .i32⟩
  | 55 => ⟨S1x1x64, .i32⟩
  | 56 => ⟨S1x1x64, .i1⟩
  | 57 => ⟨S256x64x64, .i1⟩
  | 58 => ⟨S256x64x64, .f32⟩
  | 59 => ⟨S256x64x64, .f32⟩
  | 60 => ⟨S_, .i32⟩
  | 61 => ⟨S_, .i32⟩
  | 62 => ⟨S256x64x4096, .f32⟩
  | _ => ⟨S256x64x4096, .f32⟩

abbrev hbmTy (i : Nat) : BufTy := match i / 128 with
  | 0 => hbmTy0_0 i
  | 1 => hbmTy0_1 i
  | _ => ⟨S256x64x4096, .f32⟩

abbrev bufTy : (tb : Table) → Fin (tcTables nBuf tb) → BufTy
  | .hbm, ⟨i, _⟩ => hbmTy i
  | _, _ => ⟨S256x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_v1 : Ref sig .tc := ⟨.hbm, 22, rfl⟩
abbrev main_call0_c : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_cst : Ref sig .tc := ⟨.hbm, 27, rfl⟩
abbrev main_call0_v5 : Ref sig .tc := ⟨.hbm, 28, rfl⟩
abbrev main_call0_call0_v0 : Ref sig .tc := ⟨.hbm, 29, rfl⟩
abbrev main_call0_v6 : Ref sig .tc := ⟨.hbm, 30, rfl⟩
abbrev main_call0_cst_0 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_c_10 : Ref sig .tc := ⟨.hbm, 79, rfl⟩
abbrev main_v55_0 : Ref sig .tc := ⟨.hbm, 80, rfl⟩
abbrev main_v55_1 : Ref sig .tc := ⟨.hbm, 81, rfl⟩
abbrev main_v55_2 : Ref sig .tc := ⟨.hbm, 82, rfl⟩
abbrev main_v55_3 : Ref sig .tc := ⟨.hbm, 83, rfl⟩
abbrev main_while0c_c_17 : Ref sig .tc := ⟨.hbm, 84, rfl⟩
abbrev main_while0c_v64 : Ref sig .tc := ⟨.hbm, 85, rfl⟩
abbrev main_while0b_c_17 : Ref sig .tc := ⟨.hbm, 86, rfl⟩
abbrev main_while0b_v64 : Ref sig .tc := ⟨.hbm, 87, rfl⟩
abbrev main_while0b_c_18 : Ref sig .tc := ⟨.hbm, 88, rfl⟩
abbrev main_while0b_v65 : Ref sig .tc := ⟨.hbm, 89, rfl⟩
abbrev main_while0b_v66 : Ref sig .tc := ⟨.hbm, 90, rfl⟩
abbrev main_while0b_c_19 : Ref sig .tc := ⟨.hbm, 91, rfl⟩
abbrev main_while0b_v67 : Ref sig .tc := ⟨.hbm, 92, rfl⟩
abbrev main_while0b_v68 : Ref sig .tc := ⟨.hbm, 93, rfl⟩
abbrev main_while0b_c_20 : Ref sig .tc := ⟨.hbm, 94, rfl⟩
abbrev main_while0b_c_21 : Ref sig .tc := ⟨.hbm, 95, rfl⟩
abbrev main_while0b_v69 : Ref sig .tc := ⟨.hbm, 96, rfl⟩
abbrev main_while0b_c_22 : Ref sig .tc := ⟨.hbm, 97, rfl⟩
abbrev main_while0b_v70 : Ref sig .tc := ⟨.hbm, 98, rfl⟩
abbrev main_while0b_v71 : Ref sig .tc := ⟨.hbm, 99, rfl⟩
abbrev main_while0b_c_23 : Ref sig .tc := ⟨.hbm, 100, rfl⟩
abbrev main_while0b_v72 : Ref sig .tc := ⟨.hbm, 101, rfl⟩
abbrev main_while0b_v73 : Ref sig .tc := ⟨.hbm, 102, rfl⟩
abbrev main_while0b_c_24 : Ref sig .tc := ⟨.hbm, 103, rfl⟩
abbrev main_while0b_c_25 : Ref sig .tc := ⟨.hbm, 104, rfl⟩
abbrev main_while0b_v74 : Ref sig .tc := ⟨.hbm, 105, rfl⟩
abbrev main_while0b_c_26 : Ref sig .tc := ⟨.hbm, 106, rfl⟩
abbrev main_while0b_v75 : Ref sig .tc := ⟨.hbm, 107, rfl⟩
abbrev main_while0b_v76 : Ref sig .tc := ⟨.hbm, 108, rfl⟩
abbrev main_while0b_c_27 : Ref sig .tc := ⟨.hbm, 109, rfl⟩
abbrev main_while0b_v77 : Ref sig .tc := ⟨.hbm, 110, rfl⟩
abbrev main_while0b_v78 : Ref sig .tc := ⟨.hbm, 111, rfl⟩
abbrev main_while0b_c_28 : Ref sig .tc := ⟨.hbm, 112, rfl⟩
abbrev main_while0b_c_29 : Ref sig .tc := ⟨.hbm, 113, rfl⟩
abbrev main_while0b_v79 : Ref sig .tc := ⟨.hbm, 114, rfl⟩
abbrev main_while0b_v80 : Ref sig .tc := ⟨.hbm, 115, rfl⟩
abbrev main_while0b_v81 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_v85 : Ref sig .tc := ⟨.hbm, 120, rfl⟩
abbrev main_while0b_v86 : Ref sig .tc := ⟨.hbm, 121, rfl⟩
abbrev main_while0b_v87 : Ref sig .tc := ⟨.hbm, 122, rfl⟩
abbrev main_while0b_v88 : Ref sig .tc := ⟨.hbm, 123, rfl⟩
abbrev main_while0b_call1_v0 : Ref sig .tc := ⟨.hbm, 124, rfl⟩
abbrev main_while0b_call1_v1 : Ref sig .tc := ⟨.hbm, 125, rfl⟩
abbrev main_while0b_v89 : Ref sig .tc := ⟨.hbm, 126, rfl⟩
abbrev main_while0b_c_30 : Ref sig .tc := ⟨.hbm, 127, rfl⟩
abbrev main_while0b_v90 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_cst_11 : Ref sig .tc := ⟨.hbm, 134, rfl⟩
abbrev main_v61 : Ref sig .tc := ⟨.hbm, 135, rfl⟩
abbrev main_c_12 : Ref sig .tc := ⟨.hbm, 136, rfl⟩
abbrev main_c_13 : Ref sig .tc := ⟨.hbm, 137, rfl⟩
abbrev main_v62_0 : Ref sig .tc := ⟨.hbm, 138, rfl⟩
abbrev main_v62_1 : Ref sig .tc := ⟨.hbm, 139, rfl⟩
abbrev main_v62_2 : Ref sig .tc := ⟨.hbm, 140, rfl⟩
abbrev main_v62_3 : Ref sig .tc := ⟨.hbm, 141, rfl⟩
abbrev main_v62_4 : Ref sig .tc := ⟨.hbm, 142, rfl⟩
abbrev main_v62_5 : Ref sig .tc := ⟨.hbm, 143, rfl⟩
abbrev main_while1c_c_19 : Ref sig .tc := ⟨.hbm, 144, rfl⟩
abbrev main_while1c_v64 : Ref sig .tc := ⟨.hbm, 145, rfl⟩
abbrev main_while1b_c_19 : Ref sig .tc := ⟨.hbm, 146, rfl⟩
abbrev main_while1b_v64 : Ref sig .tc := ⟨.hbm, 147, rfl⟩
abbrev main_while1b_c_20 : Ref sig .tc := ⟨.hbm, 148, rfl⟩
abbrev main_while1b_v65 : Ref sig .tc := ⟨.hbm, 149, rfl⟩
abbrev main_while1b_v66 : Ref sig .tc := ⟨.hbm, 150, rfl⟩
abbrev main_while1b_c_21 : Ref sig .tc := ⟨.hbm, 151, rfl⟩
abbrev main_while1b_v67 : Ref sig .tc := ⟨.hbm, 152, rfl⟩
abbrev main_while1b_v68 : Ref sig .tc := ⟨.hbm, 153, rfl⟩
abbrev main_while1b_c_22 : Ref sig .tc := ⟨.hbm, 154, rfl⟩
abbrev main_while1b_c_23 : Ref sig .tc := ⟨.hbm, 155, rfl⟩
abbrev main_while1b_v69 : Ref sig .tc := ⟨.hbm, 156, rfl⟩
abbrev main_while1b_c_24 : Ref sig .tc := ⟨.hbm, 157, rfl⟩
abbrev main_while1b_v70 : Ref sig .tc := ⟨.hbm, 158, rfl⟩
abbrev main_while1b_v71 : Ref sig .tc := ⟨.hbm, 159, rfl⟩
abbrev main_while1b_c_25 : Ref sig .tc := ⟨.hbm, 160, rfl⟩
abbrev main_while1b_v72 : Ref sig .tc := ⟨.hbm, 161, rfl⟩
abbrev main_while1b_v73 : Ref sig .tc := ⟨.hbm, 162, rfl⟩
abbrev main_while1b_c_26 : Ref sig .tc := ⟨.hbm, 163, rfl⟩
abbrev main_while1b_c_27 : Ref sig .tc := ⟨.hbm, 164, rfl⟩
abbrev main_while1b_v74 : Ref sig .tc := ⟨.hbm, 165, rfl⟩
abbrev main_while1b_v75 : Ref sig .tc := ⟨.hbm, 166, rfl⟩
abbrev main_while1b_v76 : Ref sig .tc := ⟨.hbm, 167, rfl⟩
abbrev main_while1b_v77 : Ref sig .tc := ⟨.hbm, 168, rfl⟩
abbrev main_while1b_v78 : Ref sig .tc := ⟨.hbm, 169, rfl⟩
abbrev main_while1b_v79 : Ref sig .tc := ⟨.hbm, 170, rfl⟩
abbrev main_while1b_v80 : Ref sig .tc := ⟨.hbm, 171, rfl⟩
abbrev main_while1b_cst_28 : Ref sig .tc := ⟨.hbm, 172, rfl⟩
abbrev main_while1b_call2_v0 : Ref sig .tc := ⟨.hbm, 173, rfl⟩
abbrev main_while1b_call2_v1 : Ref sig .tc := ⟨.hbm, 174, rfl⟩
abbrev main_while1b_call2_v2 : Ref sig .tc := ⟨.hbm, 175, rfl⟩
abbrev main_while1b_v81 : Ref sig .tc := ⟨.hbm, 176, rfl⟩
abbrev main_while1b_v82 : Ref sig .tc := ⟨.hbm, 177, rfl⟩
abbrev main_while1b_v83 : Ref sig .tc := ⟨.hbm, 178, rfl⟩
abbrev main_while1b_v84 : Ref sig .tc := ⟨.hbm, 179, rfl⟩
abbrev main_while1b_v85 : Ref sig .tc := ⟨.hbm, 180, rfl⟩
abbrev main_while1b_v86 : Ref sig .tc := ⟨.hbm, 181, rfl⟩
abbrev main_while1b_v87 : Ref sig .tc := ⟨.hbm, 182, rfl⟩
abbrev main_while1b_v88 : Ref sig .tc := ⟨.hbm, 183, rfl⟩
abbrev main_while1b_v89 : Ref sig .tc := ⟨.hbm, 184, rfl⟩
abbrev main_while1b_call3_v0 : Ref sig .tc := ⟨.hbm, 185, rfl⟩
abbrev main_while1b_call3_v1 : Ref sig .tc := ⟨.hbm, 186, rfl⟩
abbrev main_while1b_v90 : Ref sig .tc := ⟨.hbm, 187, rfl⟩
abbrev main_while1b_c_29 : Ref sig .tc := ⟨.hbm, 188, rfl⟩
abbrev main_while1b_v91 : Ref sig .tc := ⟨.hbm, 189, rfl⟩
abbrev main_v63 : Ref sig .tc := ⟨.hbm, 190, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Proof.KLoop.lean ====
/- The kernel's elimination loop, run once over a symbolic trip: what the carried values and the two scratch
   arrays hold before each trip, as a plain recursion on arrays. -/
module

public import proofs.«01_k».proof.Proof.Gen.KernelIdeal.Loops
public import proofs.«01_k».proof.Proof.Gen.KernelIdeal.Frame
public import Idealize.ShloMosaic.Lib.VecWindow
public import Idealize.ShloMosaic.Lib.Claim

@[expose] public section

set_option maxRecDepth 16384

noncomputable section

namespace Cert.KLoop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What the loop carries. -/
abbrev Acc (F : FTy → Type) : Type :=
  FVec F S1x8x1 .f32 × FVec F S1x8x1 .f32 × FVec F S1x8x128 .f32 × FVec F S1x8x128 .f32 × FVec F S64x8x1 .f32

/-- What the loop works on: the carried values and the contents of the two scratch arrays. -/
abbrev St (F : FTy → Type) : Type := Acc F × Vec F S64x8x128 .f32 × Vec F S64x8x64 .f32

/-- The row of the wide scratch array read during trip `k`. -/
def rowAt (k : Fin k0_t1_loop.trips) (C : Vec F S64x8x128 .f32) : Vec F S1x8x128 .f32 :=
  fun i => C ((Rect.unit (s := S64x8x128) (k0_off2 k) S1x8x128.size (k0_off2_inb k)).idx i)

/-- One trip: the carried values it yields, and the scratch arrays as it leaves them. -/
def kstep (v105 : IVec S1x1x128 32) (k : Fin k0_t1_loop.trips) (s : St F) : St F :=
  ((k0_pay5 v105 0#32 1#32 k s.1.2.1 s.1.2.2.1 s.1.2.2.2.1,
    k0_pay6 v105 0#32 1#32 k s.1.2.1 s.1.2.2.1 s.1.2.2.2.1,
    k0_pay4 s.1.2.1 s.1.2.2.1 s.1.2.2.2.1,
    k0_pay8 v105 0#32 1#32 k s.1.2.1 s.1.2.2.2.1 (rowAt k s.2.1),
    k0_pay31 v105 s.1.2.1 s.1.2.2.2.2 (k0_pay7 v105 0#32 1#32 k s.1.2.2.2.1) s.2.1
      (Scalar.subi (Scalar.subi 63#32 (Scf.iv 0#32 1#32 k)) 1#32)),
   k0_pay30 s.1.2.2.2.2 (k0_pay2 s.1.2.1 s.1.2.2.2.1) s.2.1,
   VecWindow.put s.2.2 (k0_off1 k) S1x8x64.size (k0_pay3 s.1.1 s.1.2.2.2.1))

/-- One trip of the loop leaves the scratch arrays and yields the carried values `kstep` says. -/
theorem trip (𝒱 : Variants) (c : Dev nD) (bd : Option 𝒱.V) (E : Set ℕ) (i : grid0.Coords) (arg1 : Memref sig .tc .vmem S8x64x4096 .f32) (harg1 : arg1.IsWhole) (arg2 : Memref sig .tc .vmem S8x64x4096 .f32) (harg2 : arg2.IsWhole) (arg3 : Memref sig .tc .vmem S64x8x128 .f32) (harg3 : arg3.IsWhole) (arg4 : Memref sig .tc .vmem S64x8x64 .f32) (harg4 : arg4.IsWhole) (v7 : FVec F S8x64x4096 .bf16) (v101 : FVec F S64x8x128 .f32) (v105 : IVec S1x1x128 32) (v114 : FVec F S1x8x128 .f32) (v123 : FVec F S1x8x1 .f32) (v124 : FVec F S1x8x1 .f32) (v132 : FVec F S1x8x128 .f32) (k : Fin k0_t1_loop.trips) (acc : Acc F) (f3 : BufTy.Contents (Elt F) arg3.view.ty) (f4 : BufTy.Contents (Elt F) arg4.view.ty) :
    (iprop((arg3.view.loc (c : Thread nD τ) ↦[arg3.view.set]{fullShare} f3) ∗ (arg4.view.loc (c : Thread nD τ) ↦[arg4.view.set]{fullShare} f4)) : sProp 𝕄G)
      ⊢ wp frame (wpE (defs₀ (F := F)) 𝒱 (c : Thread nD τ) bd) E (k0_t1_body (F := F) i arg1 harg1 arg2 harg2 arg3 harg3 arg4 harg4 v7 v101 v105 v114 v123 v124 v132 k acc)
          (fun yld => iprop(∃ g3 g4, (arg3.view.loc (c : Thread nD τ) ↦[arg3.view.set]{fullShare} g3) ∗ (arg4.view.loc (c : Thread nD τ) ↦[arg4.view.set]{fullShare} g4) ∗ ⌜(yld, arg3.view.read (Elt F) g3, arg4.view.read (Elt F) g4) = kstep v105 k (acc, arg3.view.read (Elt F) f3, arg4.view.read (Elt F) f4)⌝)) := by
  have hk : k.val < 64 := Nat.lt_of_lt_of_le k.isLt k0_t1_abs.2.1
  obtain ⟨a6, a7, a8, a9, a10⟩ := acc
  unfold k0_t1_body
  iintro ⟨HW_arg3, HW_arg4⟩
  sl_exec
  sl_step
  iexists _, _
  isplitl [HW_arg3]; · iexact HW_arg3
  isplitl [HW_arg4]; · iexact HW_arg4
  ipureintro
  rw [View.read_writes_full, View.read_writes_cons_put arg4.view f4 (k0_off1_inb k) _ [] rfl, View.writes_nil]
  have e : trip.sl.r_4 arg3 f3 = arg3.view.read (Elt F) f3 := View.readAt_full _ _ _
  unfold trip.sl.r trip.sl.r_1 trip.sl.r_2 trip.sl.r_3 trip.sl.v250
  rw [e]
  rfl

/-- The state before trip `n`, from the state at loop entry (past the last trip it stays). -/
def kst (v105 : IVec S1x1x128 32) (s0 : St F) : ℕ → St F
  | 0 => s0
  | n + 1 => if h : n < k0_t1_loop.trips then kstep v105 ⟨n, h⟩ (kst v105 s0 n) else kst v105 s0 n

theorem kst_succ (v105 : IVec S1x1x128 32) (s0 : St F) (k : Fin k0_t1_loop.trips) :
    kst v105 s0 (k.val + 1) = kstep v105 k (kst v105 s0 k.val) := by
  show dite _ _ _ = _
  rw [dif_pos k.isLt]

set_option warn.classDefReducibility false in
/-- The loop by its states: before trip `k` the two scratch arrays and the carried values are `kst`'s. -/
@[sl_loop] def loopInv (𝒱 : Variants) (c : Dev nD) (bd : Option 𝒱.V) (E : Set ℕ) (i : grid0.Coords) (arg1 : Memref sig .tc .vmem S8x64x4096 .f32) (harg1 : arg1.IsWhole) (arg2 : Memref sig .tc .vmem S8x64x4096 .f32) (harg2 : arg2.IsWhole) (arg3 : Memref sig .tc .vmem S64x8x128 .f32) (harg3 : arg3.IsWhole) (arg4 : Memref sig .tc .vmem S64x8x64 .f32) (harg4 : arg4.IsWhole) (v7 : FVec F S8x64x4096 .bf16) (v101 : FVec F S64x8x128 .f32) (v105 : IVec S1x1x128 32) (v114 : FVec F S1x8x128 .f32) (v123 : FVec F S1x8x1 .f32) (v124 : FVec F S1x8x1 .f32) (v132 : FVec F S1x8x128 .f32) (G3 : BufTy.Contents (Elt F) arg3.view.ty) (G4 : BufTy.Contents (Elt F) arg4.view.ty) (init : Acc F) :
    LoopInvTy_k0_t1 (F := F) Unit ℕ (UR sig nD τ) ℕ 𝒱 c bd E i arg1 harg1 arg2 harg2 arg3 harg3 arg4 harg4 v7 v101 v105 v114 v123 v124 v132 init where
  inv k acc := iprop((∃ f, (arg3.view.loc (c : Thread nD τ) ↦[arg3.view.set]{fullShare} f) ∗ ⌜arg3.view.read (Elt F) f = (kst v105 (init, arg3.view.read (Elt F) G3, arg4.view.read (Elt F) G4) k).2.1⌝)
    ∗ (∃ f, (arg4.view.loc (c : Thread nD τ) ↦[arg4.view.set]{fullShare} f) ∗ ⌜arg4.view.read (Elt F) f = (kst v105 (init, arg3.view.read (Elt F) G3, arg4.view.read (Elt F) G4) k).2.2⌝)
    ∗ ⌜acc = (kst v105 (init, arg3.view.read (Elt F) G3, arg4.view.read (Elt F) G4) k).1⌝)
  step k acc := by
    iintro ⟨⟨%f3, H3, %h3⟩, ⟨%f4, H4, %h4⟩, %h⟩
    iapply (wp_wand_r Idealize.ShloMosaic.frame (wpE (defs₀ (F := F)) 𝒱 (c : Thread nD τ) bd) E)
    isplitl [H3 H4]
    · iapply (trip 𝒱 c bd E i arg1 harg1 arg2 harg2 arg3 harg3 arg4 harg4 v7 v101 v105 v114 v123 v124 v132 k acc f3 f4)
      isplitl [H3]; · iexact H3
      iexact H4
    · iintro %yld ⟨%g3, %g4, H3, H4, %hy⟩
      rw [h, h3, h4, ← kst_succ] at hy
      simp only [← hy]
      isplitl [H3]
      · iexists _; isplitl [H3]; · iexact H3
        ipureintro; trivial
      isplitl [H4]
      · iexists _; isplitl [H4]; · iexact H4
        ipureintro; trivial
      ipureintro; trivial

end Cert.KLoop

end
-- ==== Proof.KRun.lean ====
/- The idealized kernel's run: what the body leaves in its output block is a function of the input block, and the
   whole program ends with those blocks in the result array, its argument unchanged and its counters at zero. -/
module

public import proofs.«01_k».proof.Proof.KLoop
public import Idealize.ShloMosaic.Lib.Pipeline.ValueKit

@[expose] public section

set_option maxRecDepth 16384

noncomputable section

namespace Cert.KRun

open Cert.KernelIdeal Cert.KernelIdeal.Gen Cert.KLoop
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loop makes sixty-four trips. -/
theorem trips_eq : k0_t1_loop.trips = 64 := by decide +kernel

/-- Trip `k` writes row `63 - k` of the narrow scratch array. -/
theorem off1_eq : ∀ k : Fin k0_t1_loop.trips, k0_off1 k = ![63 - k.val, 0, 0] := by decide +kernel

/-- Trip `k` reads row `62 - k` of the wide scratch array (row zero in the last trip). -/
theorem off2_eq : ∀ k : Fin k0_t1_loop.trips, k0_off2 k = ![62 - k.val, 0, 0] := by decide +kernel

/-- A row just put in the narrow array, and the other rows, element by element. -/
theorem put_row {α : Type} (w : S64x8x64.Idx → α) (off : Fin 3 → ℕ) (n : ℕ) (ho : off = ![n, 0, 0]) (p : S1x8x64.Idx → α) (b : Fin 8) (l : Fin 64) (r : Fin 64) :
    VecWindow.put w off S1x8x64.size p (ix3 r b l : S64x8x64.Idx) = if r.val = n then p (ix3 0 b l : S1x8x64.Idx) else w (ix3 r b l) := by
  subst ho
  unfold VecWindow.put
  by_cases hr : r.val = n
  · rw [if_pos hr, dif_pos]
    · congr 1
      funext a
      match a with
      | ⟨0, _⟩ => exact Fin.ext (show r.val - n = 0 by omega)
      | ⟨1, _⟩ => exact Fin.ext (show b.val - 0 = b.val by omega)
      | ⟨2, _⟩ => exact Fin.ext (show l.val - 0 = l.val by omega)
    · intro a
      match a with
      | ⟨0, _⟩ => exact (show n ≤ r.val ∧ r.val < n + 1 by omega)
      | ⟨1, _⟩ => exact (show 0 ≤ b.val ∧ b.val < 0 + 8 by omega)
      | ⟨2, _⟩ => exact (show 0 ≤ l.val ∧ l.val < 0 + 64 by omega)
  · rw [if_neg hr, dif_neg]
    intro h
    have := h 0
    have h2 : n ≤ r.val ∧ r.val < n + 1 := this
    omega

/-- The states before trip `n` from starts that differ in the narrow array only: they agree outside it, and in the
    rows of it already written. -/
theorem kst_indep (v105 : IVec S1x1x128 32) (a : Acc F) (C : Vec F S64x8x128 .f32) (w w' : Vec F S64x8x64 .f32) :
    ∀ n, n ≤ 64 → (kst v105 (a, C, w) n).1 = (kst v105 (a, C, w') n).1 ∧ (kst v105 (a, C, w) n).2.1 = (kst v105 (a, C, w') n).2.1
      ∧ ∀ (r : Fin 64) (b : Fin 8) (l : Fin 64), 64 ≤ r.val + n → (kst v105 (a, C, w) n).2.2 (ix3 r b l) = (kst v105 (a, C, w') n).2.2 (ix3 r b l)
  | 0, _ => ⟨rfl, rfl, fun r b l h => absurd h (by have := r.isLt; omega)⟩
  | n + 1, hn => by
    obtain ⟨h1, h2, h3⟩ := kst_indep v105 a C w w' n (by omega)
    have hk : n < k0_t1_loop.trips := by rw [trips_eq]; omega
    have e := kst_succ v105 (a, C, w) ⟨n, hk⟩
    have e' := kst_succ v105 (a, C, w') ⟨n, hk⟩
    simp only at e e'
    rw [e, e']
    refine ⟨by unfold kstep; rw [h1, h2], by unfold kstep; rw [h1, h2], fun r b l h => ?_⟩
    unfold kstep
    simp only
    rw [h1, put_row _ _ _ (off1_eq ⟨n, hk⟩), put_row _ _ _ (off1_eq ⟨n, hk⟩)]
    by_cases hr : r.val = 63 - n
    · rw [if_pos hr, if_pos hr]
    · rw [if_neg hr, if_neg hr]
      exact h3 r b l (by omega)

/-- After the loop the narrow array does not depend on what it held before. -/
theorem kst_end_indep (v105 : IVec S1x1x128 32) (a : Acc F) (C : Vec F S64x8x128 .f32) (w w' : Vec F S64x8x64 .f32) :
    (kst v105 (a, C, w) 64).2.2 = (kst v105 (a, C, w') 64).2.2 := by
  funext i
  rw [show i = ix3 (i 0) (i 1) (i 2) from funext fun a => match a with | ⟨0, _⟩ => rfl | ⟨1, _⟩ => rfl | ⟨2, _⟩ => rfl]
  exact (kst_indep v105 a C w w' 64 le_rfl).2.2 (i 0) (i 1) (i 2) (by omega)

section Names
variable (x : Vec F S8x64x4096 .f32)

/-- The lane numbers the body compares. -/
def lanes : IVec S1x1x128 32 := iota .tc S1x1x128 32 [2] iota_S1x1x128_d2_w32

/-- The scaling constant of the covariance. -/
def cst14 : F .f32 := Scalar.ofBits .f32 0x39800000#32

/-- The off-diagonal part of the shrunk covariances. -/
def sv85 : FVec F S64x8x64 .f32 := k0_pay20 (k0_pay9 x) (k0_pay10 x) (k0_pay11 x) (k0_pay12 x) (k0_pay13 x) (k0_pay14 x) (k0_pay15 x) cst14

/-- The diagonal part of the shrunk covariances. -/
def sv88 : FVec F S1x8x1 .f32 := k0_pay21 (k0_pay9 x) (k0_pay10 x) (k0_pay11 x) (k0_pay12 x) (k0_pay13 x) (k0_pay14 x) (k0_pay15 x) cst14

/-- The wide array at loop entry: the shrunk covariance beside the identity. -/
def sC0 : FVec F S64x8x128 .f32 := k0_pay23 k0_pay17 (sv85 x) (sv88 x)

/-- The carried values at loop entry. -/
def sInit : Acc F :=
  (k0_pay26 k0_pay17 (sv85 x) (sv88 x), k0_pay27 k0_pay17 (sv85 x) (sv88 x), k0_pay25 k0_pay17 (sv85 x) (sv88 x),
    k0_pay28 k0_pay17 (sv85 x) (sv88 x), k0_pay29 (sC0 x) lanes)

/-- The state before trip `n` of the body run on the block `x`. -/
def sSt (n : ℕ) : St F := kst lanes (sInit x, k0_pay24 k0_pay17 (sv85 x) (sv88 x), fun _ => Scalar.ofBits .f32 0#32) n

/-- The whitening rows the loop leaves. -/
def sW : Vec F S64x8x64 .f32 := (sSt x 64).2.2

/-- The eight stores of the body into its output block, last first. -/
def piecesOf (v7 : FVec F S8x64x4096 .bf16) (w : Vec F S64x8x64 .f32) : List (View.Piece (Elt F) S8x64x4096 .f32) :=
  [⟨Rect.unit (s := S8x64x4096) ![7, 0, 0] S1x64x4096.size inb_S8x64x4096_S1x64x4096_7_0_0, k0_pay1 (k0_pay41 v7 (k0_pay32 w))⟩,
   ⟨Rect.unit (s := S8x64x4096) ![6, 0, 0] S1x64x4096.size inb_S8x64x4096_S1x64x4096_6_0_0, k0_pay40 v7 (k0_pay32 w)⟩,
   ⟨Rect.unit (s := S8x64x4096) ![5, 0, 0] S1x64x4096.size inb_S8x64x4096_S1x64x4096_5_0_0, k0_pay39 v7 (k0_pay32 w)⟩,
   ⟨Rect.unit (s := S8x64x4096) ![4, 0, 0] S1x64x4096.size inb_S8x64x4096_S1x64x4096_4_0_0, k0_pay38 v7 (k0_pay32 w)⟩,
   ⟨Rect.unit (s := S8x64x4096) ![3, 0, 0] S1x64x4096.size inb_S8x64x4096_S1x64x4096_3_0_0, k0_pay37 v7 (k0_pay32 w)⟩,
   ⟨Rect.unit (s := S8x64x4096) ![2, 0, 0] S1x64x4096.size inb_S8x64x4096_S1x64x4096_2_0_0, k0_pay36 (k0_pay35 v7 w)⟩,
   ⟨Rect.unit (s := S8x64x4096) ![1, 0, 0] S1x64x4096.size inb_S8x64x4096_S1x64x4096_1_0_0, k0_pay34 v7 w⟩,
   ⟨Rect.unit (s := S8x64x4096) ![0, 0, 0] S1x64x4096.size inb_S8x64x4096_S1x64x4096_0_0_0, k0_pay33 v7 w⟩]

/-- The stores of the body run on the block `x`. -/
def pieces : List (View.Piece (Elt F) S8x64x4096 .f32) := piecesOf (k0_pay9 x) (sW x)

/-- The eight stores fill the block. -/
theorem pieces_cover (y : S8x64x4096.Idx) : ∃ p ∈ pieces x, y ∈ p.1.set := by
  unfold pieces piecesOf
  exact View.cover_of_tiled_head _ _ _ (by rfl) y

/-- What the body leaves in its output block. -/
def outB : Vec F S8x64x4096 .f32 := View.canon (pieces x)

end Names

set_option maxHeartbeats 1000000 in
/-- The body's triple: on whole staging memrefs, the input's at `x0`, the body leaves the output's at `outB x0`. -/
theorem bodyRun (c : Dev nD) (i : grid0.Coords) (arg1 : Memref sig .tc .vmem S8x64x4096 .f32) (harg1 : arg1.IsWhole) (arg2 : Memref sig .tc .vmem S8x64x4096 .f32) (harg2 : arg2.IsWhole) (arg3 : Memref sig .tc .vmem S64x8x128 .f32) (harg3 : arg3.IsWhole) (arg4 : Memref sig .tc .vmem S64x8x64 .f32) (harg4 : arg4.IsWhole)
    (x0 : Vec F S8x64x4096 .f32) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare (outB x0) ∗ (∃ d, owns (c : Thread nD τ) arg3 fullShare d) ∗ (∃ d, owns (c : Thread nD τ) arg4 fullShare d)) -∗ K ⟨⟩))
          ⊢ wp frame (wpE (defs₀ (F := F)) Variants.none c none) E (cc0__body i arg1 harg1 arg2 harg2 arg3 harg3 arg4 harg4) K := by
    intro E K
    simp only [cc0__body_eq_skeleton]; unfold cc0__body_skel
    simp only [k0_part2_eq_skeleton, k0_part3_eq_skeleton, k0_part4_eq_skeleton, k0_part5_eq_skeleton, k0_part6_eq_skeleton]
    unfold owns
    iintro ⟨⟨%f0, %hf0, H0⟩, ⟨%d1, %f1, -, H1⟩, ⟨%ds0, %fs0, -, HS0⟩, ⟨%ds1, %fs1, -, HS1⟩, Hk⟩
    obtain rfl := harg1.eq_unread hf0
    sl_exec
    sl_step
    iapply Hk
    isplitl [H0]
    · iexists _; isplitr; · ipureintro; exact harg1.read_unread _
      iexact H0
    isplitl [H1]
    · iexists _; isplitr; swap; · iexact H1
      ipureintro
      have hx : View.readAt (Elt F) arg1.view (Rect.unit (s := S8x64x4096) ![0, 0, 0] S8x64x4096.size inb_S8x64x4096_S8x64x4096_0_0_0).toLoadRect (harg1.unread x0) = x0 := by
        rw [View.readAt_full]; exact hf0
      have hw : View.readAt (Elt F) arg4.view (Rect.unit (s := S64x8x64) ![0, 0, 0] S64x8x64.size inb_S64x8x64_S64x8x64_0_0_0).toLoadRect fL1 = View.read (Elt F) arg4.view fL1 :=
        View.readAt_full _ _ _
      have hL : View.read (Elt F) arg4.view fL1 = (kst lanes (sInit (View.readAt (Elt F) arg1.view (Rect.unit (s := S8x64x4096) ![0, 0, 0] S8x64x4096.size inb_S8x64x4096_S8x64x4096_0_0_0).toLoadRect (harg1.unread x0)),
          View.read (Elt F) arg3.view (arg3.view.writes (Elt F) arg3.view.junk [⟨Rect.unit (s := S64x8x128) ![0, 0, 0] S64x8x128.size inb_S64x8x128_S64x8x128_0_0_0, k0_pay24 k0_pay17 (sv85 (View.readAt (Elt F) arg1.view (Rect.unit (s := S8x64x4096) ![0, 0, 0] S8x64x4096.size inb_S8x64x4096_S8x64x4096_0_0_0).toLoadRect (harg1.unread x0))) (sv88 (View.readAt (Elt F) arg1.view (Rect.unit (s := S8x64x4096) ![0, 0, 0] S8x64x4096.size inb_S8x64x4096_S8x64x4096_0_0_0).toLoadRect (harg1.unread x0)))⟩]),
          View.read (Elt F) arg4.view fs1) k0_t1_loop.trips).2.2 := hL3
      rw [hx, View.read_writes_full, trips_eq, kst_end_indep _ _ _ _ (fun _ => Scalar.ofBits .f32 0#32)] at hL
      have hL' : View.read (Elt F) arg4.view fL1 = sW x0 := hL
      show View.read (Elt F) arg2.view (arg2.view.writes (Elt F) f1 (piecesOf (k0_pay9 (View.readAt (Elt F) arg1.view (Rect.unit (s := S8x64x4096) ![0, 0, 0] S8x64x4096.size inb_S8x64x4096_S8x64x4096_0_0_0).toLoadRect (harg1.unread x0)))
        (View.readAt (Elt F) arg4.view (Rect.unit (s := S64x8x64) ![0, 0, 0] S64x8x64.size inb_S64x8x64_S64x8x64_0_0_0).toLoadRect fL1))) = _
      rw [hx, hw, hL']
      exact View.read_writes_eq_canon _ _ _ (pieces_cover x0)
    isplitl [HS0]
    · iexists _, _; isplitr; swap; · iexact HS0
      ipureintro; rfl
    iexists _, _; isplitr; swap; · iexact HS1
    ipureintro; rfl

end Cert.KRun

end
-- ==== Proof.KEnd.lean ====
/- The idealized kernel from launch to end: its argument unchanged, its counters at zero, and its result array filled
   block by block with what the body leaves. -/
module

public import proofs.«01_k».proof.Proof.KRun

@[expose] public section

set_option maxRecDepth 16384

noncomputable section

namespace Cert.KEnd

open Cert.KernelIdeal Cert.KernelIdeal.Gen Cert.KLoop Cert.KRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The current staging buffers at point `t`, and that they are whole. -/
abbrev st0 (t : Fin cfg0.N) : Memref sig .tc .vmem S8x64x4096 .f32 := win0_0.stage (cfg0.slots t 0)
abbrev st1 (t : Fin cfg0.N) : Memref sig .tc .vmem S8x64x4096 .f32 := win0_1.stage (cfg0.slots t 1)
/-- The two scratch arrays. -/
abbrev scWide : Memref sig .tc .vmem S64x8x128 .f32 := Memref.whole cc0_scratch0
abbrev scNarrow : Memref sig .tc .vmem S64x8x64 .f32 := Memref.whole cc0_scratch1

/-- What a core holds between points: the scratch arrays at some contents and the generator register. -/
theorem inv_eq (c : Dev nD) :
    (Pipeline.ΦA spec0 c : sProp 𝕄)
      = iprop(iprop((∃ d, owns (c : Thread nD τ) scWide fullShare d) ∗ (∃ d, owns (c : Thread nD τ) scNarrow fullShare d)) ∗ (∃ r, prngReg c r)) := by
  unfold Pipeline.ΦA; rw [scopedRest0_eq]; simp only [scWide, scNarrow, owns_whole]; try rfl

/-- The proof data: the input's buffer stays at its block, the output's ends at what the body computes of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outB (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]

theorem after1 (c : Dev nD) (t : Fin cfg0.N) : (dats m 0 c).after 1 t = outB (iblk m c 0 t) := by dsimp only [dats]

theorem before0 (c : Dev nD) (t : Fin cfg0.N) (d) : (dats m 0 c).before 0 t d = iblk m c 0 t :=
  before0_0_of m (dats m 0 c) (A_eq m c 0) (after0 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d)))

/-- What it returns. -/
def post (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t))

/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before0]
  rw [show (dats m 0 c).Φ t.succ = (dats m 0 c).Φ t.castSucc from rfl,
    show (dats m 0 c).owesAt () t.succ = (dats m 0 c).owesAt () t.castSucc from rfl,
    after0, after1]
  rw [show (dats m 0 c).Φ t.castSucc = Pipeline.ΦA spec0 c from rfl, inv_eq]
  iintro ⟨⟨⟨HS0, HS1⟩, Hg⟩, Ho, ⟨%d0, H0⟩, ⟨%d1, H1⟩⟩
  iapply ((bodyRun c (grid0.coords t) _ _ _ _ _ _ _ _ (iblk m c 0 t)) Set.univ _)
  isplitl [H0]; · iexact H0
  isplitl [H1]; · iexists _; iexact H1
  isplitl [HS0]; · iexact HS0
  isplitl [HS1]; · iexact HS1
  iintro ⟨H0, H1, HS0, HS1⟩
  isplitl [HS0 HS1 Hg]
  · isplitl [HS0 HS1]
    · isplitl [HS0]
      · iexact HS0
      iexact HS1
    iexact Hg
  isplitl [Ho]; · iexact Ho
  isplitl [H0]; · iexact H0
  iexact H1

theorem row_of (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, row_of]
  exact triple_restated (body_at m c t) rfl .rfl fun _ => .rfl

set_option backward.isDefEq.respectTransparency.types false in
/-- The whole program: arrays at what the proof data says, every counter zero. -/
theorem run : θ_run defs (onTc (τ := τ) (main (F := F))) (s₀ m ρ) (fun r => Pipeline.FramePost cfgs (dats m) 0 (V m) r ∧ r.2.sem = fun _ => 0) :=
  Pipeline.θ_run_frame (Q' := fun r => Pipeline.FramePost cfgs (dats m) 0 (V m) r ∧ r.2.sem = fun _ => 0) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The argument ends unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run m ρ)))
    ((θ_run defs _ _).mono (fun _ h => h.2) (run m ρ))

theorem index0 : ∀ t : Fin cfg0.N, win0_0.index t = ![t.val, 0, 0] :=
  (by decide +kernel : ∀ t : Fin grid0.N, _)

theorem index1 : ∀ t : Fin cfg0.N, win0_1.index t = ![t.val, 0, 0] :=
  (by decide +kernel : ∀ t : Fin grid0.N, _)

/-- Eight batches of the argument array. -/
def inBlk (X : S256x64x4096.Idx → F .f32) (t : Fin 32) : Vec F S8x64x4096 .f32 := fun y =>
  X (ix3 ⟨8 * t.val + (y 0).val, by have h : (y 0).val < 8 := (y 0).isLt; have := t.isLt; omega⟩ (y 1) (y 2))

/-- The result array as a function of the argument array. -/
def outArr (X : S256x64x4096.Idx → F .f32) : S256x64x4096.Idx → F .f32 := fun i =>
  outB (inBlk X ⟨(i 0).val / 8, by have h : (i 0).val < 256 := (i 0).isLt; omega⟩)
    (ix3 ⟨(i 0).val % 8, Nat.mod_lt _ (by decide)⟩ (i 1) (i 2))

/-- The input block at point `t` is eight batches of the argument. -/
theorem iblk_eq (c : Dev nD) (t : Fin cfg0.N) : iblk m c 0 t = inBlk (m ((c : Thread nD τ).loc main_arg0)) ⟨t.val, t.isLt⟩ := by
  funext y
  unfold inBlk
  blk_ext [iblk, V, index0 t]

/-- The result array's entry in batch `8 t + b`, read off block `t`. -/
theorem outArr_at (X : S256x64x4096.Idx → F .f32) (t : Fin 32) (y : S8x64x4096.Idx) (n : Fin 256) (hn : n.val = 8 * t.val + (y 0).val) :
    outArr X (ix3 n (y 1) (y 2)) = outB (inBlk X t) y := by
  have hy : (y 0).val < 8 := (y 0).isLt
  unfold outArr
  have e1 : (⟨n.val / 8, by have := n.isLt; omega⟩ : Fin 32) = t := Fin.ext (by show n.val / 8 = t.val; omega)
  have e2 : (ix3 ⟨n.val % 8, Nat.mod_lt _ (by decide)⟩ (y 1) (y 2) : S8x64x4096.Idx) = y := by
    funext a
    match a with
    | ⟨0, _⟩ => exact Fin.ext (show n.val % 8 = (y 0).val by omega)
    | ⟨1, _⟩ => rfl
    | ⟨2, _⟩ => rfl
  show outB (inBlk X ⟨n.val / 8, _⟩) (ix3 ⟨n.val % 8, _⟩ (y 1) (y 2)) = _
  rw [e1, e2]

/-- The result array after every write-back. -/
theorem arr_eq (c : Dev nD) : (dats m 0 c).arrAt 1 (cfgs 0).N = outArr (m ((c : Thread nD τ).loc main_arg0)) := by
  refine (dats m 0 c).arrAt_eq_of_covers 1 _ (by decide +kernel) fun t _ y => ?_
  blk_simp
  rw [after1, iblk_eq]
  have ht : t.val < 32 := t.isLt
  have hy : (y 0).val < 8 := (y 0).isLt
  have e : (win0_1.blk t).view.emb y = (ix3 ⟨8 * t.val + (y 0).val, by omega⟩ (y 1) (y 2) : S256x64x4096.Idx) := by
    blk_ext [index1 t]
  rw [e]
  exact (outArr_at _ ⟨t.val, ht⟩ y _ rfl).symm

/-- The whole program's result. -/
theorem result : θ_run defs (onTc (τ := τ) (main (F := F))) ⟨m, fun _ => 0, ρ⟩ (fun r => ∀ c : Dev nD,
      r.2.mem ((c.tc : Thread nD τ).loc main_v0) = outArr (m ((c : Thread nD τ).loc main_arg0))) :=
  (θ_run defs _ _).mono (fun _ h c => ((h.1 c).1 1).trans (arr_eq m c)) (run m ρ)

end Cert.KEnd

end
-- ==== Proof.Same.lean ====
/- The kernel and its idealization are one program: no operation was rewritten. What is proved of the one's runs, in any
   reading of the floats, holds of the other's. -/
module

public import proofs.«01_k».proof.Defs
public import proofs.«01_k».proof.Proof.Gen.Kernel
public import proofs.«01_k».proof.Proof.KEnd

@[expose] public section

set_option maxRecDepth 16384

noncomputable section

namespace Cert.Same

open Idealize.ShloMosaic Idealize.ShloMosaic.TcCoe Idealize.SL.Sem

instance : Cert.Kernel.Facts := Cert.Kernel.Gen.facts
instance : Cert.KernelIdeal.Facts := Cert.KernelIdeal.Gen.facts

variable {F : FTy → Type} [FloatOps F]

/-- The two body tables agree at every label. -/
theorem table_eq : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => funext ⟨t, s⟩; rfl

/-- The two tables with the pipeline's labels agree. -/
theorem defs_eq : Cert.Kernel.defs (F := F) = Cert.KernelIdeal.defs (F := F) :=
  congrArg (Pipeline.defs (Cert.KernelIdeal.pcfgs (F := F))) table_eq

/-- The kernel terminates without fault, leaves its argument unchanged and every counter at zero. -/
theorem frame : Cert.quiescent_Kernel := fun m ρ _ => by
  rw [defs_eq]
  exact Cert.KEnd.frame (F := Bits) m ρ

end Cert.Same

end
-- ==== Proof.Elim.lean ====
/- Three ways of factoring a positive definite real matrix, and why they agree: the elimination from the last pivot up
   beside an identity, the inverse by row reduction beside an identity, and the column by column factor of a symmetric
   product. Real arithmetic only; nothing here mentions a program. -/
module

public import Mathlib.LinearAlgebra.Matrix.NonsingularInverse
public import Idealize.ShloMosaic.PureOps.Ideal

@[expose] public section

noncomputable section

namespace Cert.Elim

open Finset

/-- A square real array of side sixty-four. -/
abbrev Sq : Type := Fin 64 → Fin 64 → ℝ

/-- The quadratic form of `A` is positive off zero. -/
def Pos (A : Sq) : Prop := ∀ x : Fin 64 → ℝ, (∃ i, x i ≠ 0) → 0 < ∑ l, (∑ i, x i * A i l) * x l

/-- `S` is `T` times `A`. -/
def Fac (A S T : Sq) : Prop := ∀ r l, S r l = ∑ i, T r i * A i l

/-- Subtracting multiples of one row from the rows on both sides keeps the product. -/
theorem Fac.rowOp {A S T S' T' : Sq} (h : Fac A S T) (p : Fin 64) (u : Fin 64 → ℝ)
    (hS : ∀ r l, S' r l = S r l - u r * S p l) (hT : ∀ r l, T' r l = T r l - u r * T p l) : Fac A S' T' := by
  intro r l
  rw [hS, h r l, h p l, mul_sum, ← sum_sub_distrib]
  exact sum_congr rfl fun i _ => by rw [hT]; ring

/-- The identity times `A`. -/
theorem Fac.start (A : Sq) : Fac A A (fun r l => if r = l then 1 else 0) := by
  intro r l
  simp

/-- A pivot whose row meets its transform row on the diagonal alone is positive. -/
theorem Fac.pivot_pos {A S T : Sq} (hA : Pos A) (h : Fac A S T) (p : Fin 64) (h1 : T p p = 1)
    (h0 : ∀ l, l ≠ p → S p l * T p l = 0) : 0 < S p p := by
  have hp := hA (T p) ⟨p, by rw [h1]; exact one_ne_zero⟩
  have : ∑ l, (∑ i, T p i * A i l) * T p l = S p p := by
    rw [sum_eq_single p (fun l _ hl => by rw [← h p l]; exact h0 l hl) (fun hn => absurd (mem_univ p) hn), ← h p p, h1, mul_one]
  rwa [this] at hp

/-! ## The elimination from the last pivot up -/

/-- The pivot of step `k`. -/
def piv (k : ℕ) : Fin 64 := ⟨63 - k, by omega⟩

/-- Both sides before step `k`: the reduced matrix and what the rows have been combined with. -/
def elim (A : Sq) : ℕ → Sq × Sq
  | 0 => (A, fun r l => if r = l then 1 else 0)
  | k + 1 =>
    let s := elim A k
    (fun r l => s.1 r l - s.1 r (piv k) * (s.1 (piv k) l * (s.1 (piv k) (piv k))⁻¹),
     fun r l => s.2 r l - s.1 r (piv k) * (s.2 (piv k) l * (s.1 (piv k) (piv k))⁻¹))

theorem elim_fst_succ (A : Sq) (k : ℕ) (r l : Fin 64) : (elim A (k + 1)).1 r l
    = (elim A k).1 r l - (elim A k).1 r (piv k) * ((elim A k).1 (piv k) l * ((elim A k).1 (piv k) (piv k))⁻¹) := rfl

theorem elim_snd_succ (A : Sq) (k : ℕ) (r l : Fin 64) : (elim A (k + 1)).2 r l
    = (elim A k).2 r l - (elim A k).1 r (piv k) * ((elim A k).2 (piv k) l * ((elim A k).1 (piv k) (piv k))⁻¹) := rfl

/-- What holds before step `k` of the elimination. -/
structure ElimInv (A : Sq) (k : ℕ) : Prop where
  fac : Fac A (elim A k).1 (elim A k).2
  symm : ∀ r l, (elim A k).1 r l = (elim A k).1 l r
  zero : ∀ r l : Fin 64, 64 ≤ l.val + k → (elim A k).1 r l = 0
  unit : ∀ r l : Fin 64, r.val + k < 64 → l.val + k < 64 → (elim A k).2 r l = if r = l then 1 else 0

theorem ElimInv.pivot_pos {A : Sq} (hA : Pos A) {k : ℕ} (hk : k < 64) (h : ElimInv A k) : 0 < (elim A k).1 (piv k) (piv k) := by
  have hp : (piv k).val = 63 - k := rfl
  refine h.fac.pivot_pos hA (piv k) ?_ fun l hl => ?_
  · rw [h.unit _ _ (by omega) (by omega), if_pos rfl]
  · by_cases hz : 64 ≤ l.val + k
    · rw [h.zero _ _ hz, zero_mul]
    · rw [h.unit _ _ (by omega) (by omega), if_neg (fun e => hl e.symm), mul_zero]

theorem elim_inv {A : Sq} (hA : Pos A) (hs : ∀ r l, A r l = A l r) : ∀ k, k ≤ 64 → ElimInv A k
  | 0, _ => ⟨Fac.start A, hs, fun r l h => absurd h (by have := l.isLt; omega), fun _ _ _ _ => rfl⟩
  | k + 1, hk => by
    have h := elim_inv hA hs k (by omega)
    have hd := h.pivot_pos hA (by omega)
    have hp : (piv k).val = 63 - k := rfl
    refine ⟨h.fac.rowOp (piv k) (fun r => (elim A k).1 r (piv k) * ((elim A k).1 (piv k) (piv k))⁻¹)
      (fun r l => by rw [elim_fst_succ]; ring) (fun r l => by rw [elim_snd_succ]; ring), fun r l => ?_, fun r l hl => ?_, fun r l hr hl => ?_⟩
    · rw [elim_fst_succ, elim_fst_succ, h.symm r l, h.symm (piv k) l, h.symm r (piv k)]
      ring
    · rw [elim_fst_succ]
      by_cases hz : 64 ≤ l.val + k
      · rw [h.zero _ _ hz, h.zero _ _ hz]; ring
      · have e : l = piv k := Fin.ext (by omega)
        rw [e, mul_inv_cancel₀ hd.ne']; ring
    · have hne : piv k ≠ l := fun e => by rw [← e] at hl; omega
      rw [elim_snd_succ, h.unit r l (by omega) (by omega), h.unit (piv k) l (by omega) (by omega), if_neg hne]
      ring

/-- The whitening rows the elimination leaves: row `63 - k` is the pivot's transform row over the pivot's root. -/
def white (A : Sq) : Sq := fun j l =>
  (elim A (63 - j.val)).2 j l * (√((elim A (63 - j.val)).1 j j))⁻¹

theorem piv_rev (j : Fin 64) : piv (63 - j.val) = j := Fin.ext (by have := j.isLt; show 63 - (63 - j.val) = j.val; omega)

theorem white_upper {A : Sq} (hA : Pos A) (hs : ∀ r l, A r l = A l r) (j l : Fin 64) (h : l < j) : white A j l = 0 := by
  have hv : l.val < j.val := h
  have := j.isLt
  unfold white
  rw [(elim_inv hA hs (63 - j.val) (by omega)).unit j l (by omega) (by omega), if_neg (fun e => absurd h (by rw [e]; exact lt_irrefl _)), zero_mul]

theorem white_root_pos {A : Sq} (hA : Pos A) (hs : ∀ r l, A r l = A l r) (j : Fin 64) : 0 < (elim A (63 - j.val)).1 j j := by
  have := j.isLt
  have h := (elim_inv hA hs (63 - j.val) (by omega)).pivot_pos hA (by omega)
  rwa [piv_rev] at h

theorem white_diag_pos {A : Sq} (hA : Pos A) (hs : ∀ r l, A r l = A l r) (j : Fin 64) : 0 < white A j j := by
  have := j.isLt
  unfold white
  rw [(elim_inv hA hs (63 - j.val) (by omega)).unit j j (by omega) (by omega), if_pos rfl, one_mul]
  exact inv_pos.mpr (Real.sqrt_pos.mpr (white_root_pos hA hs j))

/-- The rows are orthonormal for `A`: a later step's row against an earlier one, or a row against itself. -/
theorem white_orth {A : Sq} (hA : Pos A) (hs : ∀ r l, A r l = A l r) (j i : Fin 64) (h : j ≤ i) :
    ∑ l, (∑ m, white A j m * A m l) * white A i l = if j = i then 1 else 0 := by
  have hj := j.isLt
  have hi := i.isLt
  have hv : j.val ≤ i.val := h
  have ej : ∀ l, ∑ m, white A j m * A m l = (elim A (63 - j.val)).1 j l * (√((elim A (63 - j.val)).1 j j))⁻¹ := by
    intro l
    rw [(elim_inv hA hs (63 - j.val) (by omega)).fac j l, sum_mul]
    exact sum_congr rfl fun m _ => by unfold white; ring
  have hI := elim_inv hA hs (63 - i.val) (by omega)
  have hJ := elim_inv hA hs (63 - j.val) (by omega)
  have hterm : ∀ l, l ≠ i ∨ j ≠ i → (elim A (63 - j.val)).1 j l * (elim A (63 - i.val)).2 i l = 0 := by
    intro l hl
    by_cases hz : 64 ≤ l.val + (63 - j.val)
    · rw [hJ.zero _ _ hz, zero_mul]
    · have hne : i ≠ l := by
        intro e
        rcases hl with hl | hl
        · exact hl e.symm
        · have : j.val ≠ i.val := fun e' => hl (Fin.ext e')
          rw [← e] at hz; omega
      rw [hI.unit _ _ (by omega) (by omega), if_neg hne, mul_zero]
  by_cases e : j = i
  · subst e
    rw [if_pos rfl, sum_eq_single j]
    · rw [ej]
      unfold white
      rw [hJ.unit j j (by omega) (by omega), if_pos rfl, one_mul, mul_assoc, ← mul_inv, Real.mul_self_sqrt (white_root_pos hA hs j).le]
      exact mul_inv_cancel₀ (white_root_pos hA hs j).ne'
    · intro l _ hl
      rw [ej]
      unfold white
      rw [mul_mul_mul_comm, hterm l (Or.inl hl), zero_mul]
    · exact fun hn => absurd (mem_univ j) hn
  · rw [if_neg e]
    refine sum_eq_zero fun l _ => ?_
    rw [ej]
    unfold white
    rw [mul_mul_mul_comm, hterm l (Or.inr e), zero_mul]

theorem white_orth' {A : Sq} (hA : Pos A) (hs : ∀ r l, A r l = A l r) (j i : Fin 64) :
    ∑ l, (∑ m, white A j m * A m l) * white A i l = if j = i then 1 else 0 := by
  rcases le_total j i with h | h
  · exact white_orth hA hs j i h
  · rw [show (if j = i then (1 : ℝ) else 0) = if i = j then 1 else 0 from by simp only [eq_comm], ← white_orth hA hs i j h]
    simp only [sum_mul]
    rw [sum_comm]
    refine sum_congr rfl fun l _ => sum_congr rfl fun m _ => ?_
    rw [hs l m]; ring

/-- The rows' Gram matrix is a left inverse of `A`. -/
theorem white_inv {A : Sq} (hA : Pos A) (hs : ∀ r l, A r l = A l r) :
    ((Matrix.of (white A)).transpose * Matrix.of (white A)) * Matrix.of A = 1 := by
  have h : (Matrix.of (white A) * Matrix.of A) * (Matrix.of (white A)).transpose = 1 := by
    ext j i
    rw [Matrix.mul_apply]
    simp only [Matrix.mul_apply, Matrix.of_apply, Matrix.transpose_apply, Matrix.one_apply]
    exact white_orth' hA hs j i
  rw [Matrix.mul_assoc]
  exact mul_eq_one_comm.mp h

/-! ## The inverse by row reduction -/

/-- Both sides before round `k` of the row reduction. -/
def reduce (A : Sq) : ℕ → Sq × Sq
  | 0 => (A, fun r l => if r = l then 1 else 0)
  | k + 1 =>
    let s := reduce A k
    let p : Fin 64 := Fin.ofNat 64 k
    (fun r l => if r = p then s.1 p l / s.1 p p else s.1 r l - s.1 r p * (s.1 p l / s.1 p p),
     fun r l => if r = p then s.2 p l / s.1 p p else s.2 r l - s.1 r p * (s.2 p l / s.1 p p))

theorem reduce_fst_succ (A : Sq) (p : Fin 64) (r l : Fin 64) : (reduce A (p.val + 1)).1 r l
    = if r = p then (reduce A p.val).1 p l / (reduce A p.val).1 p p
      else (reduce A p.val).1 r l - (reduce A p.val).1 r p * ((reduce A p.val).1 p l / (reduce A p.val).1 p p) := by
  have e : Fin.ofNat 64 p.val = p := Fin.ext (Nat.mod_eq_of_lt p.isLt)
  simp only [reduce, e]

theorem reduce_snd_succ (A : Sq) (p : Fin 64) (r l : Fin 64) : (reduce A (p.val + 1)).2 r l
    = if r = p then (reduce A p.val).2 p l / (reduce A p.val).1 p p
      else (reduce A p.val).2 r l - (reduce A p.val).1 r p * ((reduce A p.val).2 p l / (reduce A p.val).1 p p) := by
  have e : Fin.ofNat 64 p.val = p := Fin.ext (Nat.mod_eq_of_lt p.isLt)
  simp only [reduce, e]

/-- What holds before round `k` of the row reduction. -/
structure ReduceInv (A : Sq) (k : ℕ) : Prop where
  fac : Fac A (reduce A k).1 (reduce A k).2
  done : ∀ r l : Fin 64, l.val < k → (reduce A k).1 r l = if r = l then 1 else 0
  unit : ∀ r l : Fin 64, k ≤ l.val → (reduce A k).2 r l = if r = l then 1 else 0

theorem ReduceInv.pivot_pos {A : Sq} (hA : Pos A) (p : Fin 64) (h : ReduceInv A p.val) : 0 < (reduce A p.val).1 p p := by
  refine h.fac.pivot_pos hA p ?_ fun l hl => ?_
  · rw [h.unit _ _ le_rfl, if_pos rfl]
  · by_cases hz : l.val < p.val
    · rw [h.done _ _ hz, if_neg (fun e => hl e.symm), zero_mul]
    · rw [h.unit _ _ (by omega), if_neg (fun e => hl e.symm), mul_zero]

theorem reduce_inv {A : Sq} (hA : Pos A) : ∀ k, k ≤ 64 → ReduceInv A k
  | 0, _ => ⟨Fac.start A, fun r l h => absurd h (Nat.not_lt_zero _), fun _ _ _ => rfl⟩
  | k + 1, hk => by
    have h := reduce_inv hA k (by omega)
    obtain ⟨p, rfl⟩ : ∃ p : Fin 64, p.val = k := ⟨⟨k, by omega⟩, rfl⟩
    have hd := h.pivot_pos hA
    refine ⟨h.fac.rowOp p (fun r => if r = p then 1 - ((reduce A p.val).1 p p)⁻¹ else (reduce A p.val).1 r p / (reduce A p.val).1 p p)
      (fun r l => ?_) (fun r l => ?_), fun r l hl => ?_, fun r l hl => ?_⟩
    · rw [reduce_fst_succ]
      by_cases e : r = p
      · rw [if_pos e, if_pos e, e]; ring
      · rw [if_neg e, if_neg e]; ring
    · rw [reduce_snd_succ]
      by_cases e : r = p
      · rw [if_pos e, if_pos e, e]; ring
      · rw [if_neg e, if_neg e]; ring
    · rw [reduce_fst_succ]
      by_cases hz : l.val < p.val
      · have hn : p ≠ l := fun e => by rw [e] at hz; exact lt_irrefl _ hz
        rw [h.done _ _ hz, h.done _ _ hz, if_neg hn, zero_div, mul_zero, sub_zero]
        by_cases e : r = p
        · rw [if_pos e, if_neg (by rw [e]; exact hn)]
        · rw [if_neg e]
      · have e : l = p := Fin.ext (by omega)
        subst e
        rw [div_self hd.ne', mul_one, sub_self]
    · have hn : p ≠ l := fun e => by rw [e] at hl; omega
      rw [reduce_snd_succ, h.unit _ _ (by omega), h.unit _ _ (by omega), if_neg hn, zero_div, mul_zero, sub_zero]
      by_cases e : r = p
      · rw [if_pos e, if_neg (by rw [e]; exact hn)]
      · rw [if_neg e]

/-- The row reduction ends at the Gram matrix of the whitening rows. -/
theorem reduce_end {A : Sq} (hA : Pos A) (hs : ∀ r l, A r l = A l r) (r c : Fin 64) :
    (reduce A 64).2 r c = ∑ i, white A i r * white A i c := by
  have h := reduce_inv hA 64 le_rfl
  have h1 : Matrix.of (reduce A 64).2 * Matrix.of A = 1 := by
    ext i j
    rw [Matrix.mul_apply, Matrix.one_apply, ← h.done i j j.isLt]
    exact (h.fac i j).symm
  have h2 := white_inv hA hs
  have h3 : Matrix.of (reduce A 64).2 = (Matrix.of (white A)).transpose * Matrix.of (white A) := by
    have h4 := mul_eq_one_comm.mp h2
    calc Matrix.of (reduce A 64).2 = Matrix.of (reduce A 64).2 * (Matrix.of A * ((Matrix.of (white A)).transpose * Matrix.of (white A))) := by rw [h4, mul_one]
      _ = _ := by rw [← Matrix.mul_assoc, h1, one_mul]
  have := congrFun (congrFun h3 r) c
  rw [Matrix.mul_apply] at this
  exact this

/-! ## The column by column factor -/

/-- Before round `k`: what is left of the matrix, and the columns found. -/
def colFac (Q : Sq) : ℕ → Sq × Sq
  | 0 => (Q, fun _ _ => 0)
  | k + 1 =>
    let s := colFac Q k
    let p : Fin 64 := Fin.ofNat 64 k
    let v : Fin 64 → ℝ := fun r => if p ≤ r then s.1 r p / √(s.1 p p) else 0
    (fun r c => s.1 r c - v r * v c, fun r c => if c = p then v r else s.2 r c)

/-- The column found in round `p`. -/
def col (Q : Sq) (p r : Fin 64) : ℝ := if p ≤ r then (colFac Q p.val).1 r p / √((colFac Q p.val).1 p p) else 0

theorem colFac_fst_succ (Q : Sq) (p r c : Fin 64) : (colFac Q (p.val + 1)).1 r c = (colFac Q p.val).1 r c - col Q p r * col Q p c := by
  have e : Fin.ofNat 64 p.val = p := Fin.ext (Nat.mod_eq_of_lt p.isLt)
  simp only [colFac, e, col]

theorem colFac_snd_succ (Q : Sq) (p r c : Fin 64) : (colFac Q (p.val + 1)).2 r c = if c = p then col Q p r else (colFac Q p.val).2 r c := by
  have e : Fin.ofNat 64 p.val = p := Fin.ext (Nat.mod_eq_of_lt p.isLt)
  simp only [colFac, e, col]

section Upper
variable {W Q : Sq} (hu : ∀ j l : Fin 64, l < j → W j l = 0) (hd : ∀ j, 0 < W j j) (hQ : ∀ r c, Q r c = ∑ i, W i r * W i c)
include hu hd hQ

/-- Before round `p` what is left is the product of the rows from `p` on; so the column found is row `p`. -/
theorem colFac_left (k : ℕ) (hk : k ≤ 64) : ∀ r c, (colFac Q k).1 r c = ∑ i, if k ≤ i.val then W i r * W i c else 0 := by
  induction k with
  | zero => intro r c; simp only [Nat.zero_le, if_true]; exact hQ r c
  | succ k ih =>
    have ih := ih (by omega)
    obtain ⟨p, rfl⟩ : ∃ p : Fin 64, p.val = k := ⟨⟨k, by omega⟩, rfl⟩
    have hcol0 : ∀ r, (colFac Q p.val).1 r p = W p r * W p p := by
      intro r
      rw [ih, sum_eq_single p]
      · rw [if_pos le_rfl]
      · intro i _ hi
        by_cases h : p.val ≤ i.val
        · rw [if_pos h, hu i p (lt_of_le_of_ne h (fun e => hi e.symm)), mul_zero]
        · rw [if_neg h]
      · exact fun hn => absurd (mem_univ p) hn
    have hcol : ∀ r, col Q p r = W p r := by
      intro r
      unfold col
      by_cases h : p ≤ r
      · rw [if_pos h, hcol0, hcol0, Real.sqrt_mul_self (hd p).le, mul_div_assoc, div_self (hd p).ne', mul_one]
      · rw [if_neg h, hu p r (not_le.mp h)]
    intro r c
    rw [colFac_fst_succ, hcol, hcol, ih, sub_eq_iff_eq_add]
    rw [← Finset.add_sum_erase _ _ (mem_univ p), if_pos le_rfl, add_comm (W p r * W p c)]
    congr 1
    rw [← Finset.add_sum_erase (univ : Finset (Fin 64)) (fun i => if p.val + 1 ≤ i.val then W i r * W i c else 0) (mem_univ p), if_neg (by omega), zero_add]
    refine sum_congr rfl fun i hi => ?_
    have hne : i.val ≠ p.val := fun e => (Finset.ne_of_mem_erase hi) (Fin.ext e)
    by_cases h : p.val ≤ i.val
    · rw [if_pos h, if_pos (by omega)]
    · rw [if_neg h, if_neg (by omega)]

theorem colFac_pivot (p r : Fin 64) : (colFac Q p.val).1 r p = W p r * W p p := by
  rw [colFac_left hu hd hQ p.val p.isLt.le, sum_eq_single p]
  · rw [if_pos le_rfl]
  · intro i _ hi
    by_cases h : p.val ≤ i.val
    · rw [if_pos h, hu i p (lt_of_le_of_ne h (fun e => hi e.symm)), mul_zero]
    · rw [if_neg h]
  · exact fun hn => absurd (mem_univ p) hn

theorem colFac_pivot_pos (p : Fin 64) : 0 < (colFac Q p.val).1 p p := by
  rw [colFac_pivot hu hd hQ]; exact mul_pos (hd p) (hd p)

theorem col_eq (p r : Fin 64) : col Q p r = W p r := by
  unfold col
  by_cases h : p ≤ r
  · rw [if_pos h, colFac_pivot hu hd hQ, colFac_pivot hu hd hQ, Real.sqrt_mul_self (hd p).le, mul_div_assoc, div_self (hd p).ne', mul_one]
  · rw [if_neg h, hu p r (not_le.mp h)]

theorem colFac_found (k : ℕ) (hk : k ≤ 64) : ∀ r c : Fin 64, c.val < k → (colFac Q k).2 r c = W c r := by
  induction k with
  | zero => intro r c h; exact absurd h (Nat.not_lt_zero _)
  | succ k ih =>
    intro r c h
    obtain ⟨p, rfl⟩ : ∃ p : Fin 64, p.val = k := ⟨⟨k, by omega⟩, rfl⟩
    rw [colFac_snd_succ]
    by_cases e : c = p
    · rw [if_pos e, col_eq hu hd hQ, e]
    · rw [if_neg e]
      have : c.val ≠ p.val := fun e' => e (Fin.ext e')
      exact ih (by omega) r c (by omega)

end Upper

/-- The three factorings agree: the column factor of the row reduction's inverse is the transpose of the
    whitening rows. -/
theorem agree {A : Sq} (hA : Pos A) (hs : ∀ r l, A r l = A l r) (r c : Fin 64) :
    (colFac (reduce A 64).2 64).2 r c = white A c r :=
  colFac_found (white_upper hA hs) (white_diag_pos hA hs) (reduce_end hA hs) 64 le_rfl r c c.isLt

/-- Every pivot of the column factor is positive. -/
theorem agree_pivot_pos {A : Sq} (hA : Pos A) (hs : ∀ r l, A r l = A l r) (p : Fin 64) :
    0 < (colFac (reduce A 64).2 p.val).1 p p :=
  colFac_pivot_pos (white_upper hA hs) (white_diag_pos hA hs) (reduce_end hA hs) p

end Cert.Elim

end
-- ==== Proof.Shrink.lean ====
/- The shrunk covariance of one batch, in real arithmetic: it is symmetric, and positive definite as soon as the signal
   is not constant; a constant signal is centred to zero. -/
module

public import proofs.«01_k».proof.Proof.Elim

@[expose] public section

noncomputable section

namespace Cert.Shrink

open Finset Cert.Elim

/-- One batch of signals. -/
abbrev Sig : Type := Fin 64 → Fin 4096 → ℝ

/-- Each channel less its mean. -/
def cen (x : Sig) : Sig := fun c m => x c m - (∑ m', x c m') / 4096

/-- The covariance of centred signals. -/
def cov (y : Sig) : Sq := fun r c => (∑ m, y r m * y c m) / 4096

/-- The trace. -/
def tr (v : Sq) : ℝ := ∑ r, v r r

/-- The sum of the squares of the entries. -/
def t2 (v : Sq) : ℝ := ∑ r, ∑ c, v r c * v r c

/-- The shrinkage intensity's numerator, denominator, and itself. -/
def num (v : Sq) : ℝ := 2047 / 2048 * t2 v + tr v * tr v
def den (v : Sq) : ℝ := 4098 * (t2 v - tr v * tr v / 64)
def rho (v : Sq) : ℝ := if den v = 0 then 1 else min (num v / den v) 1

/-- The shrunk covariance. -/
def shr (v : Sq) : Sq := fun r c => (1 - rho v) * v r c + if r = c then rho v * tr v * (1 / 64) else 0

theorem cov_symm (y : Sig) (r c : Fin 64) : cov y r c = cov y c r := by
  unfold cov
  congr 1
  exact sum_congr rfl fun m _ => mul_comm _ _

theorem cov_diag_nonneg (y : Sig) (r : Fin 64) : 0 ≤ cov y r r :=
  div_nonneg (sum_nonneg fun m _ => mul_self_nonneg _) (by norm_num)

theorem tr_nonneg (y : Sig) : 0 ≤ tr (cov y) := sum_nonneg fun r _ => cov_diag_nonneg y r

/-- No trace, no signal. -/
theorem zero_of_tr (y : Sig) (h : tr (cov y) = 0) (c : Fin 64) (m : Fin 4096) : y c m = 0 := by
  have h1 : cov y c c = 0 := (sum_eq_zero_iff_of_nonneg fun r _ => cov_diag_nonneg y r).mp h c (mem_univ c)
  have h2 : ∑ m, y c m * y c m = 0 := by
    unfold cov at h1
    rcases div_eq_zero_iff.mp h1 with h | h
    · exact h
    · norm_num at h
  exact mul_self_eq_zero.mp ((sum_eq_zero_iff_of_nonneg fun m _ => mul_self_nonneg _).mp h2 m (mem_univ m))

theorem t2_ge_diag (v : Sq) : ∑ r, v r r * v r r ≤ t2 v :=
  sum_le_sum fun r _ => single_le_sum (f := fun c => v r c * v r c) (fun c _ => mul_self_nonneg _) (mem_univ r)

theorem den_nonneg (v : Sq) : 0 ≤ den v := by
  have h2 := t2_ge_diag v
  have h : 0 ≤ ∑ r, (v r r - tr v / 64) * (v r r - tr v / 64) := sum_nonneg fun r _ => mul_self_nonneg _
  have e : ∑ r, (v r r - tr v / 64) * (v r r - tr v / 64) = (∑ r, v r r * v r r) - tr v * tr v / 64 := by
    have : ∀ r, (v r r - tr v / 64) * (v r r - tr v / 64) = v r r * v r r - 2 * (tr v / 64) * v r r + tr v / 64 * (tr v / 64) := fun r => by ring
    simp only [this, sum_add_distrib, sum_sub_distrib, ← mul_sum, sum_const, card_univ, Fintype.card_fin, nsmul_eq_mul]
    rw [show ∑ r, v r r = tr v from rfl]
    push_cast
    ring
  rw [e] at h
  unfold den
  nlinarith

theorem t2_nonneg (v : Sq) : 0 ≤ t2 v := sum_nonneg fun r _ => sum_nonneg fun c _ => mul_self_nonneg _

theorem num_pos (v : Sq) (h : tr v ≠ 0) : 0 < num v := by
  have := t2_nonneg v
  have : 0 < tr v * tr v := mul_self_pos.mpr h
  unfold num
  nlinarith

theorem rho_pos (v : Sq) (h : tr v ≠ 0) : 0 < rho v := by
  unfold rho
  split
  · exact one_pos
  · rename_i hd
    exact lt_min (div_pos (num_pos v h) (lt_of_le_of_ne (den_nonneg v) (Ne.symm hd))) one_pos

theorem rho_le (v : Sq) : rho v ≤ 1 := by
  unfold rho
  split
  · exact le_rfl
  · exact min_le_right _ _

theorem shr_symm (y : Sig) (r c : Fin 64) : shr (cov y) r c = shr (cov y) c r := by
  unfold shr
  rw [cov_symm]
  simp only [eq_comm]

theorem cov_form (y : Sig) (x : Fin 64 → ℝ) : ∑ l, (∑ i, x i * cov y i l) * x l = (∑ m, (∑ i, x i * y i m) * (∑ i, x i * y i m)) / 4096 := by
  have h : ∀ l, (∑ i, x i * cov y i l) * x l = (∑ m, (∑ i, x i * y i m) * (x l * y l m)) / 4096 := by
    intro l
    have : ∑ i, x i * cov y i l = (∑ m, (∑ i, x i * y i m) * y l m) / 4096 := by
      unfold cov
      simp only [sum_mul, sum_div, mul_div_assoc', mul_sum]
      rw [sum_comm]
      exact sum_congr rfl fun m _ => sum_congr rfl fun i _ => by ring
    rw [this, div_mul_eq_mul_div, sum_mul]
    congr 1
    exact sum_congr rfl fun m _ => by ring
  rw [sum_congr rfl fun l _ => h l, ← sum_div, sum_comm]
  congr 1
  exact sum_congr rfl fun m _ => by rw [mul_sum]

/-- The shrunk covariance of a signal that is not constant is positive definite. -/
theorem shr_pos (y : Sig) (h : tr (cov y) ≠ 0) : Pos (shr (cov y)) := by
  intro x ⟨i, hi⟩
  have hr := rho_pos (cov y) h
  have hr1 := rho_le (cov y)
  have ht : 0 < tr (cov y) := lt_of_le_of_ne (tr_nonneg y) (Ne.symm h)
  have e : ∑ l, (∑ i, x i * shr (cov y) i l) * x l
      = (1 - rho (cov y)) * ∑ l, (∑ i, x i * cov y i l) * x l + rho (cov y) * tr (cov y) * (1 / 64) * ∑ l, x l * x l := by
    rw [mul_sum, mul_sum, ← sum_add_distrib]
    refine sum_congr rfl fun l _ => ?_
    have : ∑ i, x i * shr (cov y) i l = (1 - rho (cov y)) * (∑ i, x i * cov y i l) + rho (cov y) * tr (cov y) * (1 / 64) * x l := by
      unfold shr
      simp only [mul_add, sum_add_distrib, mul_sum, mul_ite, mul_zero, sum_ite_eq', mem_univ, if_true]
      congr 1
      · exact sum_congr rfl fun i _ => by ring
      · ring
    rw [this]; ring
  rw [e, cov_form]
  have h1 : 0 ≤ (∑ m, (∑ i, x i * y i m) * (∑ i, x i * y i m)) / 4096 := div_nonneg (sum_nonneg fun m _ => mul_self_nonneg _) (by norm_num)
  have h2 : 0 < ∑ l, x l * x l := sum_pos' (fun l _ => mul_self_nonneg _) ⟨i, mem_univ i, mul_self_pos.mpr hi⟩
  have h3 : 0 < rho (cov y) * tr (cov y) * (1 / 64) := by positivity
  have h4 : 0 ≤ (1 - rho (cov y)) * ((∑ m, (∑ i, x i * y i m) * (∑ i, x i * y i m)) / 4096) := mul_nonneg (by linarith) h1
  have h5 := mul_pos h3 h2
  linarith

/-- One batch's result: the whitening rows of the shrunk covariance times the centred signals. -/
def out (x : Sig) (c : Fin 64) (m : Fin 4096) : ℝ := ∑ d, white (shr (cov (cen x))) c d * cen x d m

end Cert.Shrink

end
-- ==== Proof.Words.lean ====
/- Small facts both programs' values need: a lane picked by comparing its number, the sum over two axes, the constants'
   values, and the quotient and the reciprocal root of real numbers. -/
module

public import proofs.«01_k».proof.Proof.Gen.KernelIdeal.Frame
public import Idealize.ShloMosaic.Lib.Pipeline.ValueKit
public import proofs.«01_k».proof.Proof.Shrink

@[expose] public section

set_option maxRecDepth 16384

noncomputable section

namespace Cert.Words

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Choosing by equality of two small numbers' words is choosing by equality of the numbers. -/
theorem sel_eq {α : Type} (n j : ℕ) (hn : n < 2 ^ 32) (hj : j < 2 ^ 32) (a b : α) :
    Scalar.select (IntOp.cmpi .eq (BitVec.ofNat 32 n) (BitVec.ofNat 32 j)) a b = if n = j then a else b := by
  by_cases h : n = j
  · subst h
    rw [if_pos rfl]
    simp [Scalar.select, IntOp.cmpi]
  · rw [if_neg h]
    have : BitVec.ofNat 32 n ≠ BitVec.ofNat 32 j := fun e => h (by
      have := congrArg BitVec.toNat e
      rwa [BitVec.toNat_ofNat, BitVec.toNat_ofNat, Nat.mod_eq_of_lt hn, Nat.mod_eq_of_lt hj] at this)
    have hb : IntOp.cmpi .eq (BitVec.ofNat 32 n) (BitVec.ofNat 32 j) = 0#1 := by
      show BitVec.ofBool (BitVec.ofNat 32 n == BitVec.ofNat 32 j) = 0#1
      rw [beq_eq_false_iff_ne.mpr this]; rfl
    unfold Scalar.select
    rw [if_neg (by rw [hb]; decide)]

/-- A sum that keeps one lane. -/
theorem sum_sel {n : ℕ} (hn : n ≤ 2 ^ 32) (j : Fin n) (f : Fin n → EReal) :
    ∑ x : Fin n, Scalar.select (IntOp.cmpi .eq (BitVec.ofNat 32 x.val) (BitVec.ofNat 32 j.val)) (f x) 0 = f j := by
  rw [Finset.sum_eq_single j]
  · rw [sel_eq _ _ (by omega) (by omega), if_pos rfl]
  · intro i _ hi
    rw [sel_eq _ _ (by omega) (by omega), if_neg (fun e => hi (Fin.ext e))]
  · exact fun hn => absurd (Finset.mem_univ j) hn

/-- The sum over the first and the last axis, batch by batch. -/
theorem sum_two (f : S64x8x64.Idx → EReal) (b : Fin 8) :
    Ideal.reduceAdd reduces_S64x8x64_S8 f (ix1 b) = ∑ r : Fin 64, ∑ l : Fin 64, f (ix3 r b l) := by
  rw [← Fintype.sum_prod_type' (f := fun (r l : Fin 64) => f (ix3 r b l))]
  refine Finset.sum_filter_eq_sum_of_fiber _ (fun p : Fin 64 × Fin 64 => (ix3 p.1 b p.2 : S64x8x64.Idx)) ?_ ?_ f
  · intro p q e
    exact Prod.ext (congrFun e 0) (congrFun e 2)
  · intro i
    constructor
    · intro e
      have h : i 1 = b := congrFun e 0
      refine ⟨(i 0, i 2), ?_⟩
      funext a
      match a with
      | ⟨0, _⟩ => rfl
      | ⟨1, _⟩ => exact h.symm
      | ⟨2, _⟩ => rfl
    · rintro ⟨p, rfl⟩
      funext a
      match a with
      | ⟨0, _⟩ => rfl

/-- The number of samples. -/
theorem c4096 : Ideal.ofBits .f32 1166016512#32 = ((4096 : ℝ) : EReal) := by
  simp [Ideal.ofBits, Ideal.ieee]; rw [← EReal.coe_mul]; norm_num

/-- Its reciprocal. -/
theorem cInv4096 : Ideal.ofBits .f32 964689920#32 = ((1 / 4096 : ℝ) : EReal) := by
  simp [Ideal.ofBits, Ideal.ieee]; rw [← EReal.coe_mul]; norm_num

/-- The factor of the shrinkage's numerator. -/
theorem cNum : Ideal.ofBits .f32 1065345024#32 = ((2047 / 2048 : ℝ) : EReal) := by
  simp [Ideal.ofBits, Ideal.ieee]; rw [← EReal.coe_mul]; norm_num

/-- The factor of its denominator. -/
theorem cDen : Ideal.ofBits .f32 1166020608#32 = ((4098 : ℝ) : EReal) := by
  simp [Ideal.ofBits, Ideal.ieee]; rw [← EReal.coe_mul]; norm_num

/-- The number of channels. -/
theorem c64 : Ideal.ofBits .f32 1115684864#32 = ((64 : ℝ) : EReal) := by
  simp [Ideal.ofBits, Ideal.ieee]; rw [← EReal.coe_mul]; norm_num

/-- Its reciprocal. -/
theorem cInv64 : Ideal.ofBits .f32 1015021568#32 = ((1 / 64 : ℝ) : EReal) := by
  simp [Ideal.ofBits, Ideal.ieee]; rw [← EReal.coe_mul]; norm_num

/-- A quotient of reals by a nonzero real. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- The reciprocal root of a positive real. -/
theorem rsqrt_coe (d : ℝ) (h : 0 < d) : Ideal.rsqrt (d : EReal) = (((√d)⁻¹ : ℝ) : EReal) := by
  show (if d < 0 then ⊥ else if d = 0 then ⊤ else (((√d)⁻¹ : ℝ) : EReal)) = _
  rw [if_neg (not_lt.mpr h.le), if_neg h.ne']

/-- The root of a positive real. -/
theorem sqrt_coe (d : ℝ) (h : 0 < d) : Ideal.sqrt (d : EReal) = ((√d : ℝ) : EReal) := by
  show (if d < 0 then ⊥ else ((√d : ℝ) : EReal)) = _
  rw [if_neg (not_lt.mpr h.le)]

/-- A sum of reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The shrinkage intensity of a matrix of reals with a trace: the quotient capped at one, a zero denominator included. -/
theorem rho_min (v : Elim.Sq) (ht : Shrink.tr v ≠ 0) :
    min (Ideal.div (((2047 / 2048 : ℝ) : EReal) * ((Shrink.t2 v : ℝ) : EReal) + ((Shrink.tr v : ℝ) : EReal) * ((Shrink.tr v : ℝ) : EReal))
      (((4098 : ℝ) : EReal) * (((Shrink.t2 v : ℝ) : EReal) - Ideal.div (((Shrink.tr v : ℝ) : EReal) * ((Shrink.tr v : ℝ) : EReal)) ((64 : ℝ) : EReal)))) 1
      = ((Shrink.rho v : ℝ) : EReal) := by
  rw [← EReal.coe_mul (Shrink.tr v), div_coe _ _ (by norm_num), ← EReal.coe_sub, ← EReal.coe_mul, ← EReal.coe_mul, ← EReal.coe_add]
  show min (Ideal.div ((Shrink.num v : ℝ) : EReal) ((Shrink.den v : ℝ) : EReal)) 1 = _
  unfold Shrink.rho
  by_cases h : Shrink.den v = 0
  · rw [if_pos h, h]
    unfold Ideal.div
    rw [if_pos (by norm_cast), if_pos (by exact_mod_cast Shrink.num_pos v ht)]
    simp
  · rw [if_neg h, div_coe _ _ h]
    rcases le_total (Shrink.num v / Shrink.den v) 1 with h1 | h1
    · rw [min_eq_left h1, min_eq_left (by exact_mod_cast h1)]
    · rw [min_eq_right h1, min_eq_right (by exact_mod_cast h1)]; norm_cast

end Cert.Words

end
-- ==== Proof.KVal.lean ====
/- What the idealized kernel computes before its loop, batch by batch: the centred signals, their covariance, the
   shrunk covariance beside the identity. Every value is a real number as soon as the signals are real. -/
module

public import proofs.«01_k».proof.Proof.KRun
public import proofs.«01_k».proof.Proof.Words
public import proofs.«01_k».proof.Proof.Shrink

@[expose] public section

set_option maxRecDepth 16384

noncomputable section

namespace Cert.KVal

open Cert.KernelIdeal Cert.KernelIdeal.Gen Cert.KLoop Cert.KRun Cert.Words Cert.Elim Cert.Shrink
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The blocks of eight batches whose entries are the reals `X`. -/
def RealBlk (x : Vec Ideal S8x64x4096 .f32) (X : Fin 8 → Sig) : Prop := ∀ b c m, (x (ix3 b c m) : EReal) = ((X b c m : ℝ) : EReal)

section Pre
variable {x : Vec Ideal S8x64x4096 .f32} {X : Fin 8 → Sig} (hx : RealBlk x X)

/-- The covariances of the eight batches. -/
def covs (x : Vec Ideal S8x64x4096 .f32) : FVec Ideal S64x8x64 .f32 :=
  k0_pay16 (k0_pay9 x) (k0_pay10 x) (k0_pay11 x) (k0_pay12 x) (k0_pay13 x) (k0_pay14 x) (k0_pay15 x) cst14

/-- The traces of the eight covariances. -/
def trs (x : Vec Ideal S8x64x4096 .f32) : FVec Ideal S1x8x1 .f32 :=
  k0_pay18 (k0_pay9 x) (k0_pay10 x) (k0_pay11 x) (k0_pay12 x) (k0_pay13 x) (k0_pay14 x) (k0_pay15 x) cst14

/-- The shrinkage intensities. -/
def rhos (x : Vec Ideal S8x64x4096 .f32) : FVec Ideal S1x8x1 .f32 :=
  k0_pay19 (k0_pay9 x) (k0_pay10 x) (k0_pay11 x) (k0_pay12 x) (k0_pay13 x) (k0_pay14 x) (k0_pay15 x) cst14

theorem covs_at (x : Vec Ideal S8x64x4096 .f32) (b : Fin 8) (r l : Fin 64) :
    (covs x (ix3 r b l) : EReal) = (∑ m : Fin 4096, (k0_pay9 x (ix3 b r m) : EReal) * (k0_pay9 x (ix3 b l m) : EReal)) * Ideal.ofBits .f32 964689920#32 := by
  unfold covs
  fin_cases b <;> (pointwise [k0_pay16, k0_pay10, k0_pay11, k0_pay12, k0_pay13, k0_pay14, k0_pay15, cst14])

include hx

/-- The centred signals. -/
theorem cen_at (b : Fin 8) (c : Fin 64) (m : Fin 4096) : (k0_pay9 x (ix3 b c m) : EReal) = ((cen (X b) c m : ℝ) : EReal) := by
  have h : (k0_pay9 x (ix3 b c m) : EReal) = (x (ix3 b c m) : EReal) - Ideal.div (∑ m' : Fin 4096, (x (ix3 b c m') : EReal)) (Ideal.ofBits .f32 1166016512#32) := by
    pointwise [k0_pay9]
  rw [h, hx, Finset.sum_congr rfl fun m' _ => hx b c m', sum_coe, c4096, div_coe _ _ (by norm_num), ← EReal.coe_sub]
  rfl

/-- The covariances. -/
theorem cov_at (b : Fin 8) (r l : Fin 64) : (covs x (ix3 r b l) : EReal) = ((cov (cen (X b)) r l : ℝ) : EReal) := by
  rw [covs_at, Finset.sum_congr rfl fun m _ => by rw [cen_at hx, cen_at hx, ← EReal.coe_mul], sum_coe, cInv4096, ← EReal.coe_mul]
  unfold cov
  congr 1
  ring

/-- The traces. -/
theorem tr_at (b : Fin 8) : (trs x (ix3 0 b 0) : EReal) = ((tr (cov (cen (X b))) : ℝ) : EReal) := by
  have h : (trs x (ix3 0 b 0) : EReal) = ∑ r : Fin 64, ∑ l : Fin 64, if r.val = l.val then (covs x (ix3 r b l) : EReal) else 0 := by
    unfold trs
    pointwise [k0_pay18, k0_pay17]
    rw [sum_two]
    refine Finset.sum_congr rfl fun r _ => Finset.sum_congr rfl fun l _ => ?_
    rw [← sel_eq r.val l.val (by omega) (by omega)]
    unfold covs
    pointwise
  rw [h]
  unfold tr
  rw [← sum_coe]
  refine Finset.sum_congr rfl fun r _ => ?_
  rw [Finset.sum_eq_single r, if_pos rfl, cov_at hx]
  · intro l _ hl
    rw [if_neg (fun e => hl (Fin.ext e.symm))]
  · exact fun hn => absurd (Finset.mem_univ r) hn

/-- The sums of squares of the covariances. -/
theorem t2_at (b : Fin 8) : Ideal.reduceAdd reduces_S64x8x64_S8 (mulf (covs x) (covs x)) (ix1 b) = ((t2 (cov (cen (X b))) : ℝ) : EReal) := by
  rw [sum_two]
  unfold t2
  rw [← sum_coe]
  refine Finset.sum_congr rfl fun r _ => ?_
  rw [← sum_coe]
  refine Finset.sum_congr rfl fun l _ => ?_
  rw [EReal.coe_mul, ← cov_at hx]
  rfl

/-- The shrinkage intensities of signals that are not constant. -/
theorem rho_at (b : Fin 8) (ht : tr (cov (cen (X b))) ≠ 0) : (rhos x (ix3 0 b 0) : EReal) = ((rho (cov (cen (X b))) : ℝ) : EReal) := by
  have h : (rhos x (ix3 0 b 0) : EReal) = min (Ideal.div
        (Ideal.ofBits .f32 1065345024#32 * Ideal.reduceAdd reduces_S64x8x64_S8 (mulf (covs x) (covs x)) (ix1 b)
          + (trs x (ix3 0 b 0) : EReal) * (trs x (ix3 0 b 0) : EReal))
        (Ideal.ofBits .f32 1166020608#32 * (Ideal.reduceAdd reduces_S64x8x64_S8 (mulf (covs x) (covs x)) (ix1 b)
          - Ideal.div ((trs x (ix3 0 b 0) : EReal) * (trs x (ix3 0 b 0) : EReal)) (Ideal.ofBits .f32 1115684864#32)))) 1 := by
    unfold rhos covs trs
    pointwise [k0_pay19]
  rw [h, t2_at hx, tr_at hx, cNum, cDen, c64]
  exact rho_min _ ht

/-- The wide array at loop entry: the shrunk covariance beside the identity. -/
theorem wide_at (b : Fin 8) (ht : tr (cov (cen (X b))) ≠ 0) (r : Fin 64) (l : Fin 128) :
    (sC0 x (ix3 r b l) : EReal) = ((if h : l.val < 64 then shr (cov (cen (X b))) r ⟨l.val, h⟩ else if r.val = l.val - 64 then 1 else 0 : ℝ) : EReal) := by
  have h : (sC0 x (ix3 r b l) : EReal) = if h : l.val < 64 then (1 - (rhos x (ix3 0 b 0) : EReal)) * (covs x (ix3 r b ⟨l.val, h⟩) : EReal)
      + (if r.val = l.val then (rhos x (ix3 0 b 0) : EReal) * (trs x (ix3 0 b 0) : EReal) * Ideal.ofBits .f32 1015021568#32 else 0)
      else if r.val = l.val - 64 then 1 else 0 := by
    unfold sC0
    rw [← sel_eq (α := EReal) r.val (l.val - 64) (by omega) (by omega), ← sel_eq (α := EReal) r.val l.val (by omega) (by omega)]
    unfold sv85 sv88 rhos covs trs
    pointwise [k0_pay23, k0_pay22, k0_pay17, k0_pay20, k0_pay21]
  rw [h]
  by_cases hl : l.val < 64
  · rw [dif_pos hl, dif_pos hl, rho_at hx b ht, cov_at hx, tr_at hx, cInv64]
    unfold shr
    by_cases e : r.val = l.val
    · rw [if_pos e, if_pos (Fin.ext e)]
      norm_cast
    · rw [if_neg e, if_neg (fun h => e (congrArg Fin.val h))]
      norm_cast
  · rw [dif_neg hl, dif_neg hl]
    split <;> norm_cast

end Pre

end Cert.KVal

end
-- ==== Proof.KElim.lean ====
/- The idealized kernel's loop, batch by batch, is the elimination of real arithmetic; and what the body leaves in its
   output block is the whitening rows times the centred signals. -/
module

public import proofs.«01_k».proof.Proof.KVal

@[expose] public section

set_option maxRecDepth 16384

noncomputable section

namespace Cert.KElim

open Cert.KernelIdeal Cert.KernelIdeal.Gen Cert.KLoop Cert.KRun Cert.Words Cert.Elim Cert.Shrink Cert.KVal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Both sides of the elimination side by side, as the wide array holds them. -/
def wd (E : Sq × Sq) (r : Fin 64) (l : Fin 128) : ℝ := if h : l.val < 64 then E.1 r ⟨l.val, h⟩ else E.2 r ⟨l.val - 64, by omega⟩

theorem wd_left (E : Sq × Sq) (r l : Fin 64) (l' : Fin 128) (h : l'.val = l.val) : wd E r l' = E.1 r l := by
  unfold wd
  rw [dif_pos (by omega)]
  exact congrArg _ (Fin.ext h)

theorem wd_right (E : Sq × Sq) (r l : Fin 64) (l' : Fin 128) (h : l'.val = 64 + l.val) : wd E r l' = E.2 r l := by
  unfold wd
  rw [dif_neg (by omega)]
  exact congrArg _ (Fin.ext (show l'.val - 64 = l.val by omega))

theorem wd_succ (A : Sq) (k : ℕ) (r : Fin 64) (l : Fin 128) : wd (elim A (k + 1)) r l
    = wd (elim A k) r l - (elim A k).1 r (piv k) * (wd (elim A k) (piv k) l * ((elim A k).1 (piv k) (piv k))⁻¹) := by
  unfold wd
  split
  · exact elim_fst_succ A k r _
  · exact elim_snd_succ A k r _

/-- The word the lanes are compared with in trip `k`: the next pivot's number. -/
theorem next_word : ∀ k : Fin k0_t1_loop.trips, k.val < 63 →
    Scalar.subi (Scalar.subi 63#32 (Scf.iv 0#32 1#32 k)) 1#32 = BitVec.ofNat 32 (62 - k.val) := by decide +kernel

/-- The next pivot's lane. -/
def lane (k : ℕ) : Fin 128 := ⟨62 - k, by omega⟩

section Payloads
variable (b : Fin 8)

theorem p2 (d : FVec Ideal S1x8x1 .f32) (row : FVec Ideal S1x8x128 .f32) (l : Fin 128) :
    (k0_pay2 d row (ix3 0 b l) : EReal) = (row (ix3 0 b l) : EReal) * (d (ix3 0 b 0) : EReal) := by
  pointwise [k0_pay2]

theorem p3 (d : FVec Ideal S1x8x1 .f32) (row : FVec Ideal S1x8x128 .f32) (l : Fin 64) :
    (k0_pay3 d row (ix3 0 b l) : EReal) = (row (ix3 0 b ⟨64 + l.val, by omega⟩) : EReal) * (d (ix3 0 b 0) : EReal) := by
  pointwise [k0_pay3]

theorem p4 (d : FVec Ideal S1x8x1 .f32) (dg row : FVec Ideal S1x8x128 .f32) (l : Fin 128) :
    (k0_pay4 d dg row (ix3 0 b l) : EReal) = (dg (ix3 0 b l) : EReal) - (row (ix3 0 b l) : EReal) * ((row (ix3 0 b l) : EReal) * (d (ix3 0 b 0) : EReal)) := by
  pointwise [k0_pay4, k0_pay2]

variable (k : Fin k0_t1_loop.trips) (hk : k.val < 63)
include hk

theorem p5 (d : FVec Ideal S1x8x1 .f32) (dg row : FVec Ideal S1x8x128 .f32) :
    (k0_pay5 lanes 0#32 1#32 k d dg row (ix3 0 b 0) : EReal) = Ideal.rsqrt (k0_pay4 d dg row (ix3 0 b (lane k.val))) := by
  pointwise [k0_pay5, lanes]
  rw [next_word k hk]
  exact congrArg _ (sum_sel (by norm_num) (lane k.val) (fun l => k0_pay4 d dg row (ix3 0 b l)))

theorem p7 (row : FVec Ideal S1x8x128 .f32) :
    (k0_pay7 lanes 0#32 1#32 k row (ix3 0 b 0) : EReal) = (row (ix3 0 b (lane k.val)) : EReal) := by
  pointwise [k0_pay7, lanes]
  rw [next_word k hk]
  exact sum_sel (by norm_num) (lane k.val) (fun l => row (ix3 0 b l))

theorem p8 (d : FVec Ideal S1x8x1 .f32) (row : FVec Ideal S1x8x128 .f32) (v : Vec Ideal S1x8x128 .f32) (l : Fin 128) :
    (k0_pay8 lanes 0#32 1#32 k d row v (ix3 0 b l) : EReal)
      = (v (ix3 0 b l) : EReal) - (row (ix3 0 b (lane k.val)) : EReal) * ((row (ix3 0 b l) : EReal) * (d (ix3 0 b 0) : EReal)) := by
  rw [← p7 b k hk row, ← p2 b d row l]
  pointwise [k0_pay8]

theorem p31 (d : FVec Ideal S1x8x1 .f32) (a : FVec Ideal S64x8x1 .f32) (w : FVec Ideal S1x8x1 .f32) (C : Vec Ideal S64x8x128 .f32) (r : Fin 64) :
    (k0_pay31 lanes d a w C (Scalar.subi (Scalar.subi 63#32 (Scf.iv 0#32 1#32 k)) 1#32) (ix3 r b 0) : EReal)
      = (C (ix3 r b (lane k.val)) : EReal) - (a (ix3 r b 0) : EReal) * ((w (ix3 0 b 0) : EReal) * (d (ix3 0 b 0) : EReal)) := by
  rw [next_word k hk]
  pointwise [k0_pay31, lanes]
  exact congrArg (· - _) (sum_sel (by norm_num) (lane k.val) (fun l => C (ix3 r b l)))

omit hk in
theorem p30 (a : FVec Ideal S64x8x1 .f32) (v : FVec Ideal S1x8x128 .f32) (C : Vec Ideal S64x8x128 .f32) (r : Fin 64) (l : Fin 128) :
    (k0_pay30 a v C (ix3 r b l) : EReal) = (C (ix3 r b l) : EReal) - (a (ix3 r b 0) : EReal) * (v (ix3 0 b l) : EReal) := by
  pointwise [k0_pay30]

theorem row_read (C : Vec Ideal S64x8x128 .f32) (l : Fin 128) : rowAt k C (ix3 0 b l) = C (ix3 (piv (k.val + 1)) b l) := by
  unfold rowAt
  congr 1
  funext a
  have ho := off2_eq k
  match a with
  | ⟨0, _⟩ => exact Fin.ext (by show k0_off2 k 0 + 1 * 0 = 63 - (k.val + 1); rw [ho]; show 62 - k.val + 1 * 0 = _; omega)
  | ⟨1, _⟩ => exact Fin.ext (by show k0_off2 k 1 + 1 * b.val = b.val; rw [ho]; show 0 + 1 * b.val = _; omega)
  | ⟨2, _⟩ => exact Fin.ext (by show k0_off2 k 2 + 1 * l.val = l.val; rw [ho]; show 0 + 1 * l.val = _; omega)

end Payloads

/-- Batch `b` of the loop's state before trip `k` is the elimination of `A` before step `k`. -/
structure At (b : Fin 8) (A : Sq) (k : ℕ) (s : St Ideal) : Prop where
  wide : ∀ r l, (s.2.1 (ix3 r b l) : EReal) = ((wd (elim A k) r l : ℝ) : EReal)
  row : ∀ l, (s.1.2.2.2.1 (ix3 0 b l) : EReal) = ((wd (elim A k) (piv k) l : ℝ) : EReal)
  acol : ∀ r, (s.1.2.2.2.2 (ix3 r b 0) : EReal) = (((elim A k).1 r (piv k) : ℝ) : EReal)
  dg : ∀ l : Fin 64, (s.1.2.2.1 (ix3 0 b ⟨l.val, by omega⟩) : EReal) = (((elim A k).1 l l : ℝ) : EReal)
  rinv : (s.1.1 (ix3 0 b 0) : EReal) = (((√((elim A k).1 (piv k) (piv k)))⁻¹ : ℝ) : EReal)
  dinv : (s.1.2.1 (ix3 0 b 0) : EReal) = ((((elim A k).1 (piv k) (piv k))⁻¹ : ℝ) : EReal)

/-- The square of a reciprocal root. -/
theorem root_sq (d : ℝ) (h : 0 < d) : (√d)⁻¹ * (√d)⁻¹ = d⁻¹ := by
  rw [← mul_inv, Real.mul_self_sqrt h.le]

/-- One trip is one step of the elimination. -/
theorem At.next {b : Fin 8} {A : Sq} (hA : Pos A) (hs : ∀ r l, A r l = A l r) {k : Fin k0_t1_loop.trips} (hk : k.val < 63) {s : St Ideal}
    (h : At b A k.val s) : At b A (k.val + 1) (kstep lanes k s) := by
  have hI := elim_inv hA hs k.val (by omega)
  have hp := ElimInv.pivot_pos hA (k := k.val + 1) (by omega) (elim_inv hA hs (k.val + 1) (by omega))
  have hl : ∀ r, wd (elim A k.val) r (lane k.val) = (elim A k.val).1 r (piv (k.val + 1)) := fun r =>
    wd_left _ r _ _ (show 62 - k.val = 63 - (k.val + 1) by omega)
  have hdg : ∀ l : Fin 64, (k0_pay4 s.1.2.1 s.1.2.2.1 s.1.2.2.2.1 (ix3 0 b ⟨l.val, by omega⟩) : EReal) = (((elim A (k.val + 1)).1 l l : ℝ) : EReal) := by
    intro l
    rw [p4, h.dg, h.row, h.dinv, wd_left _ _ l _ rfl, ← EReal.coe_mul, ← EReal.coe_mul, ← EReal.coe_sub, elim_fst_succ, hI.symm l (piv k.val)]
  have h5 : (k0_pay5 lanes 0#32 1#32 k s.1.2.1 s.1.2.2.1 s.1.2.2.2.1 (ix3 0 b 0) : EReal)
      = (((√((elim A (k.val + 1)).1 (piv (k.val + 1)) (piv (k.val + 1))))⁻¹ : ℝ) : EReal) := by
    rw [p5 b k hk]
    have := hdg (piv (k.val + 1))
    rw [show (⟨(piv (k.val + 1)).val, by omega⟩ : Fin 128) = lane k.val from Fin.ext (show 63 - (k.val + 1) = 62 - k.val by omega)] at this
    rw [this, rsqrt_coe _ hp]
  refine ⟨fun r l => ?_, fun l => ?_, fun r => ?_, hdg, h5, ?_⟩
  · show (k0_pay30 s.1.2.2.2.2 (k0_pay2 s.1.2.1 s.1.2.2.2.1) s.2.1 (ix3 r b l) : EReal) = _
    rw [p30, p2, h.wide, h.acol, h.row, h.dinv, ← EReal.coe_mul, ← EReal.coe_mul, ← EReal.coe_sub, wd_succ]
  · show (k0_pay8 lanes 0#32 1#32 k s.1.2.1 s.1.2.2.2.1 (rowAt k s.2.1) (ix3 0 b l) : EReal) = _
    rw [p8 b k hk, row_read b k hk, h.wide, h.row, h.row, h.dinv, hl, ← EReal.coe_mul, ← EReal.coe_mul, ← EReal.coe_sub, wd_succ, hI.symm (piv k.val)]
  · show (k0_pay31 lanes s.1.2.1 s.1.2.2.2.2 (k0_pay7 lanes 0#32 1#32 k s.1.2.2.2.1) s.2.1 _ (ix3 r b 0) : EReal) = _
    rw [p31 b k hk, p7 b k hk, h.wide, h.acol, h.row, h.dinv, hl, hl, ← EReal.coe_mul, ← EReal.coe_mul, ← EReal.coe_sub, elim_fst_succ]
  · show (k0_pay6 lanes 0#32 1#32 k s.1.2.1 s.1.2.2.1 s.1.2.2.2.1 (ix3 0 b 0) : EReal) = _
    have : (k0_pay6 lanes 0#32 1#32 k s.1.2.1 s.1.2.2.1 s.1.2.2.2.1 (ix3 0 b 0) : EReal)
        = (k0_pay5 lanes 0#32 1#32 k s.1.2.1 s.1.2.2.1 s.1.2.2.2.1 (ix3 0 b 0) : EReal) * (k0_pay5 lanes 0#32 1#32 k s.1.2.1 s.1.2.2.1 s.1.2.2.2.1 (ix3 0 b 0) : EReal) := by
      pointwise [k0_pay6]
    rw [this, h5, ← EReal.coe_mul, root_sq _ hp]

/-- The row of the narrow array written in trip `k` is a whitening row. -/
theorem At.written {b : Fin 8} {A : Sq} {k : Fin k0_t1_loop.trips} {s : St Ideal} (h : At b A k.val s) (l : Fin 64) :
    (k0_pay3 s.1.1 s.1.2.2.2.1 (ix3 0 b l) : EReal) = ((white A (piv k.val) l : ℝ) : EReal) := by
  have hk : k.val < 64 := trips_eq ▸ k.isLt
  rw [p3, h.row, h.rinv, wd_right _ _ l _ rfl, ← EReal.coe_mul]
  unfold white
  rw [show 63 - (piv k.val).val = k.val from by show 63 - (63 - k.val) = k.val; omega]

/-- The opening payloads' elements. -/
theorem p23 (M : IVec S64x1x64 1) (v : FVec Ideal S64x8x64 .f32) (w : FVec Ideal S1x8x1 .f32) (r : Fin 64) (b : Fin 8) (l : Fin 64) :
    (k0_pay23 M v w (ix3 r b ⟨l.val, by omega⟩) : EReal) = (k0_pay22 M v w (ix3 r b l) : EReal) := by
  have h : (k0_pay23 M v w (ix3 r b ⟨l.val, by omega⟩) : EReal) = if h : l.val < 64 then (k0_pay22 M v w (ix3 r b ⟨l.val, h⟩) : EReal)
      else Scalar.select (M (ix3 r 0 ⟨l.val - 64, by omega⟩)) 1 0 := by
    pointwise [k0_pay23]
  rw [h, dif_pos l.isLt]

theorem p25 (v : FVec Ideal S64x8x64 .f32) (w : FVec Ideal S1x8x1 .f32) (b : Fin 8) (l : Fin 64) :
    (k0_pay25 k0_pay17 v w (ix3 0 b ⟨l.val, by omega⟩) : EReal) = (k0_pay23 k0_pay17 v w (ix3 l b ⟨l.val, by omega⟩) : EReal) := by
  have h : ∀ M : IVec S64x1x64 1, (k0_pay25 M v w (ix3 0 b ⟨l.val, by omega⟩) : EReal)
      = if h : l.val < 64 then ∑ x, Scalar.select (M (ix3 x 0 ⟨l.val, h⟩)) (k0_pay22 M v w (ix3 x b ⟨l.val, h⟩) : EReal) 0 else 0 := by
    intro M
    pointwise [k0_pay25]
  have m : ∀ r : Fin 64, k0_pay17 (ix3 r 0 l) = IntOp.cmpi .eq (BitVec.ofNat 32 r.val) (BitVec.ofNat 32 l.val) := by
    intro r
    pointwise [k0_pay17]
  rw [h, dif_pos l.isLt, p23]
  simp only [m]
  exact sum_sel (by norm_num) l (fun x => k0_pay22 k0_pay17 v w (ix3 x b l))

theorem p26 (v : FVec Ideal S64x8x64 .f32) (w : FVec Ideal S1x8x1 .f32) (b : Fin 8) :
    (k0_pay26 k0_pay17 v w (ix3 0 b 0) : EReal) = Ideal.rsqrt (k0_pay25 k0_pay17 v w (ix3 0 b 63)) := by
  have h : ∀ M : IVec S64x1x64 1, (k0_pay26 M v w (ix3 0 b 0) : EReal)
      = Ideal.rsqrt (∑ x : Fin 128, Scalar.select (IntOp.cmpi .eq (BitVec.ofNat 32 x.val) 63#32) (k0_pay25 M v w (ix3 0 b x) : EReal) 0) := by
    intro M
    pointwise [k0_pay26]
  rw [h]
  exact congrArg _ (sum_sel (by norm_num) 63 (fun x => k0_pay25 k0_pay17 v w (ix3 0 b x)))

theorem p28 (M : IVec S64x1x64 1) (v : FVec Ideal S64x8x64 .f32) (w : FVec Ideal S1x8x1 .f32) (b : Fin 8) (l : Fin 128) :
    (k0_pay28 M v w (ix3 0 b l) : EReal) = (k0_pay23 M v w (ix3 63 b l) : EReal) := by
  pointwise [k0_pay28]
  exact sum_sel (by norm_num) 63 (fun x => k0_pay23 M v w (ix3 x b l))

theorem p29 (C : Vec Ideal S64x8x128 .f32) (r : Fin 64) (b : Fin 8) :
    (k0_pay29 (F := Ideal) C lanes (ix3 r b 0) : EReal) = (C (ix3 r b 63) : EReal) := by
  pointwise [k0_pay29, lanes]
  exact sum_sel (by norm_num) 63 (fun x => C (ix3 r b x))

section Loop
variable {x : Vec Ideal S8x64x4096 .f32} {X : Fin 8 → Sig} (hx : RealBlk x X) (b : Fin 8) (ht : tr (cov (cen (X b))) ≠ 0)
include hx ht

/-- At loop entry. -/
theorem start : At b (shr (cov (cen (X b)))) 0 (sSt x 0) := by
  have hA := shr_pos (cen (X b)) ht
  have hs := shr_symm (cen (X b))
  have hp := ElimInv.pivot_pos hA (k := 0) (by omega) (elim_inv hA hs 0 (by omega))
  have hw : ∀ r l, (sC0 x (ix3 r b l) : EReal) = ((wd (elim (shr (cov (cen (X b)))) 0) r l : ℝ) : EReal) := by
    intro r l
    rw [wide_at hx b ht]
    unfold wd
    simp only [elim, Fin.ext_iff]
  have hdg : ∀ l : Fin 64, (k0_pay25 k0_pay17 (sv85 x) (sv88 x) (ix3 0 b ⟨l.val, by omega⟩) : EReal) = (((elim (shr (cov (cen (X b)))) 0).1 l l : ℝ) : EReal) := by
    intro l
    rw [p25]
    exact (hw l _).trans (by rw [wd_left _ l l _ rfl])
  have h5 : (k0_pay26 k0_pay17 (sv85 x) (sv88 x) (ix3 0 b 0) : EReal) = (((√((elim (shr (cov (cen (X b)))) 0).1 (piv 0) (piv 0)))⁻¹ : ℝ) : EReal) := by
    rw [p26]
    exact (congrArg Ideal.rsqrt (hdg (piv 0))).trans (rsqrt_coe _ hp)
  refine ⟨fun r l => ?_, fun l => ?_, fun r => ?_, hdg, h5, ?_⟩
  · show (k0_pay24 k0_pay17 (sv85 x) (sv88 x) (ix3 r b l) : EReal) = _
    have : (k0_pay24 k0_pay17 (sv85 x) (sv88 x) (ix3 r b l) : EReal) = (sC0 x (ix3 r b l) : EReal) := by
      unfold sC0
      pointwise [k0_pay24]
    rw [this, hw]
  · show (k0_pay28 k0_pay17 (sv85 x) (sv88 x) (ix3 0 b l) : EReal) = _
    rw [p28]
    exact hw 63 l
  · show (k0_pay29 (F := Ideal) (sC0 x) lanes (ix3 r b 0) : EReal) = _
    rw [p29, hw]
    rw [wd_left _ r (piv 0) _ rfl]
  · show (k0_pay27 k0_pay17 (sv85 x) (sv88 x) (ix3 0 b 0) : EReal) = _
    have : (k0_pay27 k0_pay17 (sv85 x) (sv88 x) (ix3 0 b 0) : EReal)
        = (k0_pay26 k0_pay17 (sv85 x) (sv88 x) (ix3 0 b 0) : EReal) * (k0_pay26 k0_pay17 (sv85 x) (sv88 x) (ix3 0 b 0) : EReal) := by
      pointwise [k0_pay27]
    rw [this, h5, ← EReal.coe_mul, root_sq _ hp]

/-- Before every trip. -/
theorem atTrip (n : ℕ) (hn : n < 64) : At b (shr (cov (cen (X b)))) n (sSt x n) := by
  induction n with
  | zero => exact start hx b ht
  | succ n ih =>
    have h := ih (by omega)
    have := At.next (shr_pos (cen (X b)) ht) (shr_symm (cen (X b))) (k := ⟨n, by rw [trips_eq]; omega⟩) (by show n < 63; omega) h
    unfold sSt at this ⊢
    rw [kst_succ _ _ (⟨n, by rw [trips_eq]; omega⟩ : Fin k0_t1_loop.trips)]
    exact this

/-- After `n` trips the last `n` rows of the narrow array are whitening rows. -/
theorem rows (n : ℕ) (hn : n ≤ 64) (r : Fin 64) (hr : 64 - n ≤ r.val) (l : Fin 64) :
    ((sSt x n).2.2 (ix3 r b l) : EReal) = ((white (shr (cov (cen (X b)))) r l : ℝ) : EReal) := by
  induction n with
  | zero => omega
  | succ n ih =>
    have hs := (atTrip hx b ht n (by omega)).written (k := ⟨n, by rw [trips_eq]; omega⟩) l
    unfold sSt at ih hs ⊢
    rw [kst_succ _ _ (⟨n, by rw [trips_eq]; omega⟩ : Fin k0_t1_loop.trips)]
    refine (put_row _ _ (63 - n) (off1_eq _) _ b l r).trans ?_
    by_cases e : r.val = 63 - n
    · rw [if_pos e]
      refine hs.trans ?_
      rw [show piv n = r from Fin.ext e.symm]
    · rw [if_neg e]
      exact ih (by omega) (by omega)

theorem sW_at (r l : Fin 64) : (sW x (ix3 r b l) : EReal) = ((white (shr (cov (cen (X b)))) r l : ℝ) : EReal) :=
  rows hx b ht 64 le_rfl r (by omega) l

end Loop

end Cert.KElim

end
-- ==== Proof.KOut.lean ====
/- What the idealized kernel's body leaves in its output block: the whitening rows times the centred signals. -/
module

public import proofs.«01_k».proof.Proof.KElim

@[expose] public section

set_option maxRecDepth 16384

noncomputable section

namespace Cert.KOut

open Cert.KernelIdeal Cert.KernelIdeal.Gen Cert.KLoop Cert.KRun Cert.Words Cert.Elim Cert.Shrink Cert.KVal Cert.KElim
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- One element of the product of the rows `w` with the signals `v7`. -/
def prod (v7 : FVec Ideal S8x64x4096 .bf16) (w : Vec Ideal S64x8x64 .f32) (b : Fin 8) (c : Fin 64) (m : Fin 4096) : EReal :=
  ∑ d : Fin 64, (w (ix3 c b d) : EReal) * (v7 (ix3 b d m) : EReal)

/-- A store of one batch's product holds that product. -/
theorem tile (v7 : FVec Ideal S8x64x4096 .bf16) (w : Vec Ideal S64x8x64 .f32) (k : Fin 8) (p : S1x64x4096.Idx → EReal)
    (hp : ∀ c m, p (ix3 0 c m) = prod v7 w k c m) (b : Fin 8) (c : Fin 64) (m : Fin 4096) :
    View.TileAt (S := S8x64x4096) (Val := Elt Ideal) (e := .f32) (ix3 b c m) ![k.val, 0, 0] S1x64x4096.size p (prod v7 w b c m) := by
  intro x hx
  have h0 : b.val = k.val + (x 0).val := hx 0
  have h1 : c.val = 0 + (x 1).val := hx 1
  have h2 : m.val = 0 + (x 2).val := hx 2
  have hx0 : (x 0).val < 1 := (x 0).isLt
  have e : x = ix3 0 c m := by
    funext a
    match a with
    | ⟨0, _⟩ => exact Fin.ext (show (x 0).val = 0 by omega)
    | ⟨1, _⟩ => exact Fin.ext (show (x 1).val = c.val by omega)
    | ⟨2, _⟩ => exact Fin.ext (show (x 2).val = m.val by omega)
  rw [e, show b = k from Fin.ext (by omega)]
  exact hp c m

theorem t0 (v7 : FVec Ideal S8x64x4096 .bf16) (w : Vec Ideal S64x8x64 .f32) (c : Fin 64) (m : Fin 4096) :
    (k0_pay33 v7 w (ix3 0 c m) : EReal) = prod v7 w 0 c m := by
  unfold prod
  pointwise [k0_pay32, k0_pay33]

theorem t1 (v7 : FVec Ideal S8x64x4096 .bf16) (w : Vec Ideal S64x8x64 .f32) (c : Fin 64) (m : Fin 4096) :
    (k0_pay34 v7 w (ix3 0 c m) : EReal) = prod v7 w 1 c m := by
  unfold prod
  pointwise [k0_pay32, k0_pay34]

theorem t2 (v7 : FVec Ideal S8x64x4096 .bf16) (w : Vec Ideal S64x8x64 .f32) (c : Fin 64) (m : Fin 4096) :
    (k0_pay36 (k0_pay35 v7 w) (ix3 0 c m) : EReal) = prod v7 w 2 c m := by
  unfold prod
  pointwise [k0_pay32, k0_pay36, k0_pay35]

theorem t3 (v7 : FVec Ideal S8x64x4096 .bf16) (w : Vec Ideal S64x8x64 .f32) (c : Fin 64) (m : Fin 4096) :
    (k0_pay37 v7 (k0_pay32 w) (ix3 0 c m) : EReal) = prod v7 w 3 c m := by
  unfold prod
  pointwise [k0_pay32, k0_pay37]

theorem t4 (v7 : FVec Ideal S8x64x4096 .bf16) (w : Vec Ideal S64x8x64 .f32) (c : Fin 64) (m : Fin 4096) :
    (k0_pay38 v7 (k0_pay32 w) (ix3 0 c m) : EReal) = prod v7 w 4 c m := by
  unfold prod
  pointwise [k0_pay32, k0_pay38]

theorem t5 (v7 : FVec Ideal S8x64x4096 .bf16) (w : Vec Ideal S64x8x64 .f32) (c : Fin 64) (m : Fin 4096) :
    (k0_pay39 v7 (k0_pay32 w) (ix3 0 c m) : EReal) = prod v7 w 5 c m := by
  unfold prod
  pointwise [k0_pay32, k0_pay39]

theorem t6 (v7 : FVec Ideal S8x64x4096 .bf16) (w : Vec Ideal S64x8x64 .f32) (c : Fin 64) (m : Fin 4096) :
    (k0_pay40 v7 (k0_pay32 w) (ix3 0 c m) : EReal) = prod v7 w 6 c m := by
  unfold prod
  pointwise [k0_pay32, k0_pay40]

theorem t7 (v7 : FVec Ideal S8x64x4096 .bf16) (w : Vec Ideal S64x8x64 .f32) (c : Fin 64) (m : Fin 4096) :
    (k0_pay1 (k0_pay41 v7 (k0_pay32 w)) (ix3 0 c m) : EReal) = prod v7 w 7 c m := by
  unfold prod
  pointwise [k0_pay32, k0_pay1, k0_pay41]

/-- The output block, element by element. -/
theorem outB_prod (x : Vec Ideal S8x64x4096 .f32) (b : Fin 8) (c : Fin 64) (m : Fin 4096) :
    (outB x (ix3 b c m) : EReal) = prod (k0_pay9 x) (sW x) b c m := by
  unfold outB
  refine View.canon_eq_of_allAt (Val := Elt Ideal) (e := .f32) _ _ _ (pieces_cover x _) ?_
  unfold pieces piecesOf
  refine View.allAt_cons_unit _ _ _ _ _ (tile (k0_pay9 x) (sW x) 7 _ (t7 _ _) b c m) ?_
  refine View.allAt_cons_unit _ _ _ _ _ (tile (k0_pay9 x) (sW x) 6 _ (t6 _ _) b c m) ?_
  refine View.allAt_cons_unit _ _ _ _ _ (tile (k0_pay9 x) (sW x) 5 _ (t5 _ _) b c m) ?_
  refine View.allAt_cons_unit _ _ _ _ _ (tile (k0_pay9 x) (sW x) 4 _ (t4 _ _) b c m) ?_
  refine View.allAt_cons_unit _ _ _ _ _ (tile (k0_pay9 x) (sW x) 3 _ (t3 _ _) b c m) ?_
  refine View.allAt_cons_unit _ _ _ _ _ (tile (k0_pay9 x) (sW x) 2 _ (t2 _ _) b c m) ?_
  refine View.allAt_cons_unit _ _ _ _ _ (tile (k0_pay9 x) (sW x) 1 _ (t1 _ _) b c m) ?_
  refine View.allAt_cons_unit _ _ _ _ _ (tile (k0_pay9 x) (sW x) 0 _ (t0 _ _) b c m) ?_
  exact View.allAt_nil _ _

/-- On real blocks the output block is the whitened signals. -/
theorem outB_at {x : Vec Ideal S8x64x4096 .f32} {X : Fin 8 → Sig} (hx : RealBlk x X) (b : Fin 8) (c : Fin 64) (m : Fin 4096) :
    (outB x (ix3 b c m) : EReal) = ((Shrink.out (X b) c m : ℝ) : EReal) := by
  rw [outB_prod]
  unfold prod Shrink.out
  by_cases ht : tr (cov (cen (X b))) = 0
  · have hz := zero_of_tr _ ht
    simp only [hz, mul_zero, Finset.sum_const_zero, EReal.coe_zero]
    refine Finset.sum_eq_zero fun d _ => ?_
    rw [cen_at hx, hz, EReal.coe_zero, mul_zero]
  · rw [← sum_coe]
    refine Finset.sum_congr rfl fun d _ => ?_
    rw [cen_at hx, sW_at hx b ht, EReal.coe_mul]

end Cert.KOut

end
-- ==== Proof.RefLaunch.lean ====
/- Launch set-up of the reference program: its host operations as lists, one list for each stretch between two host loops, and the
   equations saying that `main` and the two loop bodies are the chains of these lists. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4096

noncomputable section

namespace Cert.RefLaunch

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 20 host operations of @main, window 0 (statements 1 … 60), in order. -/
abbrev main_part0_ops0 : List (HloOp τ sig (Elt F)) :=
  [ StableHlo.nullary main_cst (constant S_ .f32 0x00000000#32),
    StableHlo.binary main_arg0 main_cst main_v0 ((fun x v => Host.reduceAdd x v reducesTo_S256x64x4096_S256x64_d2 h_S_) : (⟨S256x64x4096, .f32⟩ : BufTy).Contents (Elt F) → (⟨S_, .f32⟩ : BufTy).Contents (Elt F) → (⟨S256x64, .f32⟩ : BufTy).Contents (Elt F)),
    StableHlo.unary main_v0 main_v1 (broadcastInDim S256x64x1 ![0, 1] bcast_S256x64_S256x64x1_0_1 : (⟨S256x64, .f32⟩ : BufTy).Contents (Elt F) → (⟨S256x64x1, .f32⟩ : BufTy).Contents (Elt F)),
    StableHlo.nullary main_cst_0 (constant S_ .f32 0x45800000#32),
    StableHlo.unary main_cst_0 main_v2 (broadcastInDim S256x64x1 ![] bcast_S_S256x64x1 : (⟨S_, .f32⟩ : BufTy).Contents (Elt F) → (⟨S256x64x1, .f32⟩ : BufTy).Contents (Elt F)),
    StableHlo.binary main_v1 main_v2 main_v3 (Host.divf : (⟨S256x64x1, .f32⟩ : BufTy).Contents (Elt F) → (⟨S256x64x1, .f32⟩ : BufTy).Contents (Elt F) → (⟨S256x64x1, .f32⟩ : BufTy).Contents (Elt F)),
    StableHlo.unary main_v3 main_v4 (broadcastInDim S256x64x4096 ![0, 1, 2] bcast_S256x64x1_S256x64x4096_0_1_2 : (⟨S256x64x1, .f32⟩ : BufTy).Contents (Elt F) → (⟨S256x64x4096, .f32⟩ : BufTy).Contents (Elt F)),
    StableHlo.binary main_arg0 main_v4 main_v5 (subf : (⟨S256x64x4096, .f32⟩ : BufTy).Contents (Elt F) → (⟨S256x64x4096, .f32⟩ : BufTy).Contents (Elt F) → (⟨S256x64x4096, .f32⟩ : BufTy).Contents (Elt F)),
    StableHlo.binary main_v5 main_v5 main_v6 ((fun l r => Host.dotGeneral dot_S256x64x4096_S256x64x4096_S256x64x64_2_2_1_1_0_0 none l r) : (⟨S256x64x4096, .f32⟩ : BufTy).Contents (Elt F) → (⟨S256x64x4096, .f32⟩ : BufTy).Contents (Elt F) → (⟨S256x64x64, .f32⟩ : BufTy).Contents (Elt F)),
    StableHlo.nullary main_cst_1 (constant S_ .f32 0x45800000#32),
    StableHlo.unary main_cst_1 main_v7 (broadcastInDim S256x64x64 ![] bcast_S_S256x64x64 : (⟨S_, .f32⟩ : BufTy).Contents (Elt F) → (⟨S256x64x64, .f32⟩ : BufTy).Contents (Elt F)),
    StableHlo.binary main_v6 main_v7 main_v8 (Host.divf : (⟨S256x64x64, .f32⟩ : BufTy).Contents (Elt F) → (⟨S256x64x64, .f32⟩ : BufTy).Contents (Elt F) → (⟨S256x64x64, .f32⟩ : BufTy).Contents (Elt F)),
    StableHlo.nullary main_v9 (iotaInDim S64x64 32 0),
    StableHlo.nullary main_v10 (iotaInDim S64x64 32 1),
    StableHlo.nullary main_c (constantI S_ 32 0#32),
    StableHlo.unary main_c main_v11 (broadcastInDim S64x64 ![] bcast_S_S64x64 : (⟨S_, .i32⟩ : BufTy).Contents (Elt F) → (⟨S64x64, .i32⟩ : BufTy).Contents (Elt F)),
    StableHlo.binary main_v9 main_v11 main_v12 (addi : (⟨S64x64, .i32⟩ : BufTy).Contents (Elt F) → (⟨S64x64, .i32⟩ : BufTy).Contents (Elt F) → (⟨S64x64, .i32⟩ : BufTy).Contents (Elt F)),
    StableHlo.binary main_v12 main_v10 main_v13 (cmpi .eq : (⟨S64x64, .i32⟩ : BufTy).Contents (Elt F) → (⟨S64x64, .i32⟩ : BufTy).Contents (Elt F) → (⟨S64x64, .i1⟩ : BufTy).Contents (Elt F)),
    StableHlo.unary main_v13 main_v14 (uitofp .f32 : (⟨S64x64, .i1⟩ : BufTy).Contents (Elt F) → (⟨S64x64, .f32⟩ : BufTy).Contents (Elt F)),
    StableHlo.unary main_v14 main_v15 (broadcastInDim S1x64x64 ![1, 2] bcast_S64x64_S1x64x64_1_2 : (⟨S64x64, .f32⟩ : BufTy).Contents (Elt F) → (⟨S1x64x64, .f32⟩ : BufTy).Contents (Elt F)) ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.unary_bufs_sub ..⟩
/-- 12 host operations of @trace (main_call0), window 0 (statements 1 … 60), in order. -/
abbrev main_part0_ops1 : List (HloOp τ sig (Elt F)) :=
  [ StableHlo.TRef.nullary (.of main_call0_v0 : StableHlo.TRef sig ⟨S64x64, .i32⟩) (iotaInDim S64x64 32 0),
    StableHlo.TRef.nullary (.of main_call0_v1 : StableHlo.TRef sig ⟨S64x64, .i32⟩) (iotaInDim S64x64 32 1),
    StableHlo.TRef.nullary (.of main_call0_c : StableHlo.TRef sig ⟨S_, .i32⟩) (constantI S_ 32 0#32),
    StableHlo.TRef.unary (.of main_call0_c : StableHlo.TRef sig ⟨S_, .i32⟩) (.of main_call0_v2 : StableHlo.TRef sig ⟨S64x64, .i32⟩) (broadcastInDim S64x64 ![] bcast_S_S64x64),
    StableHlo.TRef.binary (.of main_call0_v0 : StableHlo.TRef sig ⟨S64x64, .i32⟩) (.of main_call0_v2 : StableHlo.TRef sig ⟨S64x64, .i32⟩) (.of main_call0_v3 : StableHlo.TRef sig ⟨S64x64, .i32⟩) addi,
    StableHlo.TRef.binary (.of main_call0_v3 : StableHlo.TRef sig ⟨S64x64, .i32⟩) (.of main_call0_v1 : StableHlo.TRef sig ⟨S64x64, .i32⟩) (.of main_call0_v4 : StableHlo.TRef sig ⟨S64x64, .i1⟩) (cmpi .eq),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v5 : StableHlo.TRef sig ⟨S256x64x64, .f32⟩) (broadcastInDim S256x64x64 ![] bcast_S_S256x64x64),
    StableHlo.TRef.unary (.of main_call0_v4 : StableHlo.TRef sig ⟨S64x64, .i1⟩) (.of main_call0_call0_v0 : StableHlo.TRef sig ⟨S256x64x64, .i1⟩) (broadcastInDim S256x64x64 ![1, 2] bcast_S64x64_S256x64x64_1_2),
    StableHlo.TRef.ternary (.of main_call0_call0_v0 : StableHlo.TRef sig ⟨S256x64x64, .i1⟩) (.of main_v8 : StableHlo.TRef sig ⟨S256x64x64, .f32⟩) (.of main_call0_v5 : StableHlo.TRef sig ⟨S256x64x64, .f32⟩) (.of main_call0_v6 : StableHlo.TRef sig ⟨S256x64x64, .f32⟩) select,
    StableHlo.TRef.nullary (.of main_call0_cst_0 : StableHlo.TRef sig ⟨S_, .f32⟩) (constant S_ .f32 0x00000000#32),
    StableHlo.TRef.binary main_call0_call0.v1 (.of main_call0_cst_0 : StableHlo.TRef sig ⟨S_, .f32⟩) (.of main_v16 : StableHlo.TRef sig ⟨S256, .f32⟩) (fun x v => Host.reduceAdd x v reducesTo_S256x64x64_S256_d1_2 h_S_) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub ..⟩
/-- 39 host operations of @main, window 0 (statements 1 … 60), in order. -/
abbrev main_part0_ops2 : List (HloOp τ sig (Elt F)) :=
  ( StableHlo.unary main_v16 main_v17 (broadcastInDim S256x1x1 ![0] bcast_S256_S256x1x1_0 : (⟨S256, .f32⟩ : BufTy).Contents (Elt F) → (⟨S256x1x1, .f32⟩ : BufTy).Contents (Elt F))
  :: StableHlo.nullary main_cst_2 (constant S_ .f32 0x42800000#32)
  :: StableHlo.unary main_cst_2 main_v18 (broadcastInDim S256x1x1 ![] bcast_S_S256x1x1 : (⟨S_, .f32⟩ : BufTy).Contents (Elt F) → (⟨S256x1x1, .f32⟩ : BufTy).Contents (Elt F))
  :: StableHlo.binary main_v17 main_v18 main_v19 (Host.divf : (⟨S256x1x1, .f32⟩ : BufTy).Contents (Elt F) → (⟨S256x1x1, .f32⟩ : BufTy).Contents (Elt F) → (⟨S256x1x1, .f32⟩ : BufTy).Contents (Elt F))
  :: StableHlo.unary main_v19 main_v20 (broadcastInDim S256x64x64 ![0, 1, 2] bcast_S256x1x1_S256x64x64_0_1_2 : (⟨S256x1x1, .f32⟩ : BufTy).Contents (Elt F) → (⟨S256x64x64, .f32⟩ : BufTy).Contents (Elt F))
  :: StableHlo.unary main_v15 main_v21 (broadcastInDim S256x64x64 ![0, 1, 2] bcast_S1x64x64_S256x64x64_0_1_2 : (⟨S1x64x64, .f32⟩ : BufTy).Contents (Elt F) → (⟨S256x64x64, .f32⟩ : BufTy).Contents (Elt F))
  :: StableHlo.binary main_v20 main_v21 main_v22 (mulf : (⟨S256x64x64, .f32⟩ : BufTy).Contents (Elt F) → (⟨S256x64x64, .f32⟩ : BufTy).Contents (Elt F) → (⟨S256x64x64, .f32⟩ : BufTy).Contents (Elt F))
  :: StableHlo.binary main_v8 main_v8 main_v23 ((fun l r => Host.dotGeneral dot_S256x64x64_S256x64x64_S256_12_21_n_n_0_0 none l r) : (⟨S256x64x64, .f32⟩ : BufTy).Contents (Elt F) → (⟨S256x64x64, .f32⟩ : BufTy).Contents (Elt F) → (⟨S256, .f32⟩ : BufTy).Contents (Elt F))
  :: StableHlo.unary main_v23 main_v24 (broadcastInDim S256x1x1 ![0] bcast_S256_S256x1x1_0 : (⟨S256, .f32⟩ : BufTy).Contents (Elt F) → (⟨S256x1x1, .f32⟩ : BufTy).Contents (Elt F))
  :: StableHlo.nullary main_cst_3 (constant S_ .f32 0x3F7FE000#32)
  :: StableHlo.unary main_cst_3 main_v25 (broadcastInDim S256x1x1 ![] bcast_S_S256x1x1 : (⟨S_, .f32⟩ : BufTy).Contents (Elt F) → (⟨S256x1x1, .f32⟩ : BufTy).Contents (Elt F))
  :: StableHlo.binary main_v25 main_v24 main_v26 (mulf : (⟨S256x1x1, .f32⟩ : BufTy).Contents (Elt F) → (⟨S256x1x1, .f32⟩ : BufTy).Contents (Elt F) → (⟨S256x1x1, .f32⟩ : BufTy).Contents (Elt F))
  :: StableHlo.binary main_v17 main_v17 main_v27 (mulf : (⟨S256x1x1, .f32⟩ : BufTy).Contents (Elt F) → (⟨S256x1x1, .f32⟩ : BufTy).Contents (Elt F) → (⟨S256x1x1, .f32⟩ : BufTy).Contents (Elt F))
  :: StableHlo.binary main_v26 main_v27 main_v28 (addf : (⟨S256x1x1, .f32⟩ : BufTy).Contents (Elt F) → (⟨S256x1x1, .f32⟩ : BufTy).Contents (Elt F) → (⟨S256x1x1, .f32⟩ : BufTy).Contents (Elt F))
  :: StableHlo.binary main_v17 main_v17 main_v29 (mulf : (⟨S256x1x1, .f32⟩ : BufTy).Contents (Elt F) → (⟨S256x1x1, .f32⟩ : BufTy).Contents (Elt F) → (⟨S256x1x1, .f32⟩ : BufTy).Contents (Elt F))
  :: StableHlo.nullary main_cst_4 (constant S_ .f32 0x42800000#32)
  :: StableHlo.unary main_cst_4 main_v30 (broadcastInDim S256x1x1 ![] bcast_S_S256x1x1 : (⟨S_, .f32⟩ : BufTy).Contents (Elt F) → (⟨S256x1x1, .f32⟩ : BufTy).Contents (Elt F))
  :: StableHlo.binary main_v29 main_v30 main_v31 (Host.divf : (⟨S256x1x1, .f32⟩ : BufTy).Contents (Elt F) → (⟨S256x1x1, .f32⟩ : BufTy).Contents (Elt F) → (⟨S256x1x1, .f32⟩ : BufTy).Contents (Elt F))
  :: StableHlo.binary main_v24 main_v31 main_v32 (subf : (⟨S256x1x1, .f32⟩ : BufTy).Contents (Elt F) → (⟨S256x1x1, .f32⟩ : BufTy).Contents (Elt F) → (⟨S256x1x1, .f32⟩ : BufTy).Contents (Elt F))
  :: StableHlo.nullary main_cst_5 (constant S_ .f32 0x45801000#32)
  :: StableHlo.unary main_cst_5 main_v33 (broadcastInDim S256x1x1 ![] bcast_S_S256x1x1 : (⟨S_, .f32⟩ : BufTy).Contents (Elt F) → (⟨S256x1x1, .f32⟩ : BufTy).Contents (Elt F))
  :: StableHlo.binary main_v33 main_v32 main_v34 (mulf : (⟨S256x1x1, .f32⟩ : BufTy).Contents (Elt F) → (⟨S256x1x1, .f32⟩ : BufTy).Contents (Elt F) → (⟨S256x1x1, .f32⟩ : BufTy).Contents (Elt F))
  :: StableHlo.binary main_v28 main_v34 main_v35 (Host.divf : (⟨S256x1x1, .f32⟩ : BufTy).Contents (Elt F) → (⟨S256x1x1, .f32⟩ : BufTy).Contents (Elt F) → (⟨S256x1x1, .f32⟩ : BufTy).Contents (Elt F))
  :: StableHlo.nullary main_cst_6 (constant S_ .f32 0x3F800000#32)
  :: StableHlo.unary main_cst_6 main_v36 (broadcastInDim S256x1x1 ![] bcast_S_S256x1x1 : (⟨S_, .f32⟩ : BufTy).Contents (Elt F) → (⟨S256x1x1, .f32⟩ : BufTy).Contents (Elt F))
  :: StableHlo.binary main_v35 main_v36 main_v37 (minimumf : (⟨S256x1x1, .f32⟩ : BufTy).Contents (Elt F) → (⟨S256x1x1, .f32⟩ : BufTy).Contents (Elt F) → (⟨S256x1x1, .f32⟩ : BufTy).Contents (Elt F))
  :: StableHlo.unary main_v37 main_v38 (broadcastInDim S256x64x64 ![0, 1, 2] bcast_S256x1x1_S256x64x64_0_1_2 : (⟨S256x1x1, .f32⟩ : BufTy).Contents (Elt F) → (⟨S256x64x64, .f32⟩ : BufTy).Contents (Elt F))
  :: StableHlo.binary main_v38 main_v22 main_v39 (mulf : (⟨S256x64x64, .f32⟩ : BufTy).Contents (Elt F) → (⟨S256x64x64, .f32⟩ : BufTy).Contents (Elt F) → (⟨S256x64x64, .f32⟩ : BufTy).Contents (Elt F))
  :: StableHlo.nullary main_cst_7 (constant S_ .f32 0x3F800000#32)
  :: StableHlo.unary main_cst_7 main_v40 (broadcastInDim S256x1x1 ![] bcast_S_S256x1x1 : (⟨S_, .f32⟩ : BufTy).Contents (Elt F) → (⟨S256x1x1, .f32⟩ : BufTy).Contents (Elt F))
  :: StableHlo.binary main_v40 main_v37 main_v41 (subf : (⟨S256x1x1, .f32⟩ : BufTy).Contents (Elt F) → (⟨S256x1x1, .f32⟩ : BufTy).Contents (Elt F) → (⟨S256x1x1, .f32⟩ : BufTy).Contents (Elt F))
  :: StableHlo.unary main_v41 main_v42 (broadcastInDim S256x64x64 ![0, 1, 2] bcast_S256x1x1_S256x64x64_0_1_2 : (⟨S256x1x1, .f32⟩ : BufTy).Contents (Elt F) → (⟨S256x64x64, .f32⟩ : BufTy).Contents (Elt F))
  :: StableHlo.binary main_v42 main_v8 main_v43 (mulf : (⟨S256x64x64, .f32⟩ : BufTy).Contents (Elt F) → (⟨S256x64x64, .f32⟩ : BufTy).Contents (Elt F) → (⟨S256x64x64, .f32⟩ : BufTy).Contents (Elt F))
  :: StableHlo.binary main_v39 main_v43 main_v44 (addf : (⟨S256x64x64, .f32⟩ : BufTy).Contents (Elt F) → (⟨S256x64x64, .f32⟩ : BufTy).Contents (Elt F) → (⟨S256x64x64, .f32⟩ : BufTy).Contents (Elt F))
  :: StableHlo.nullary main_v45 (iotaInDim S64 32 0)
  :: StableHlo.unary main_v45 main_v46 (broadcastInDim S1x64x1 ![1] bcast_S64_S1x64x1_1 : (⟨S64, .i32⟩ : BufTy).Contents (Elt F) → (⟨S1x64x1, .i32⟩ : BufTy).Contents (Elt F))
  :: StableHlo.nullary main_v47 (iotaInDim S64x64 32 0)
  :: StableHlo.nullary main_v48 (iotaInDim S64x64 32 1)
  :: StableHlo.nullary main_c_8 (constantI S_ 32 0#32)
  :: [] )
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.nullary_bufs_sub .., StableHlo.nullary_bufs_sub .., StableHlo.nullary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 12 host operations of @main, window 1 (statements 61 … 91), in order. -/
abbrev main_part1_ops0 : List (HloOp τ sig (Elt F)) :=
  [ StableHlo.unary main_c_8 main_v49 (broadcastInDim S64x64 ![] bcast_S_S64x64 : (⟨S_, .i32⟩ : BufTy).Contents (Elt F) → (⟨S64x64, .i32⟩ : BufTy).Contents (Elt F)),
    StableHlo.binary main_v47 main_v49 main_v50 (addi : (⟨S64x64, .i32⟩ : BufTy).Contents (Elt F) → (⟨S64x64, .i32⟩ : BufTy).Contents (Elt F) → (⟨S64x64, .i32⟩ : BufTy).Contents (Elt F)),
    StableHlo.binary main_v50 main_v48 main_v51 (cmpi .eq : (⟨S64x64, .i32⟩ : BufTy).Contents (Elt F) → (⟨S64x64, .i32⟩ : BufTy).Contents (Elt F) → (⟨S64x64, .i1⟩ : BufTy).Contents (Elt F)),
    StableHlo.unary main_v51 main_v52 (uitofp .f32 : (⟨S64x64, .i1⟩ : BufTy).Contents (Elt F) → (⟨S64x64, .f32⟩ : BufTy).Contents (Elt F)),
    StableHlo.unary main_v52 main_v53 (broadcastInDim S256x64x64 ![1, 2] bcast_S64x64_S256x64x64_1_2 : (⟨S64x64, .f32⟩ : BufTy).Contents (Elt F) → (⟨S256x64x64, .f32⟩ : BufTy).Contents (Elt F)),
    StableHlo.binary main_v44 main_v53 main_v54 ((fun a b => concatenate S256x64x128 2 [⟨S256x64x64, a⟩, ⟨S256x64x64, b⟩] concatenates_S256x64x64_S256x64x64_S256x64x128_d2) : (⟨S256x64x64, .f32⟩ : BufTy).Contents (Elt F) → (⟨S256x64x64, .f32⟩ : BufTy).Contents (Elt F) → (⟨S256x64x128, .f32⟩ : BufTy).Contents (Elt F)),
    StableHlo.nullary main_c_9 (constantI S_ 32 0#32),
    StableHlo.nullary main_c_10 (constantI S_ 32 0#32),
    StableHlo.unary main_v46 main_v55_0 id,
    StableHlo.unary main_c_10 main_v55_1 id,
    StableHlo.unary main_c_9 main_v55_2 id,
    StableHlo.unary main_v54 main_v55_3 id ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub ..⟩
/-- 15 host operations of @main, window 1 (statements 61 … 91), in order. -/
abbrev main_part1_ops1 : List (HloOp τ sig (Elt F)) :=
  [ StableHlo.unary main_v55_3 main_v56 ((extractStridedSlice S256x64x64 ![0, 0, 64] · slices_S256x64x128_S256x64x64_0_0_64) : (⟨S256x64x128, .f32⟩ : BufTy).Contents (Elt F) → (⟨S256x64x64, .f32⟩ : BufTy).Contents (Elt F)),
    StableHlo.nullary main_v57 (iotaInDim S64 32 0),
    StableHlo.unary main_v57 main_v58 (broadcastInDim S1x64x1 ![1] bcast_S64_S1x64x1_1 : (⟨S64, .i32⟩ : BufTy).Contents (Elt F) → (⟨S1x64x1, .i32⟩ : BufTy).Contents (Elt F)),
    StableHlo.nullary main_v59 (iotaInDim S64 32 0),
    StableHlo.unary main_v59 main_v60 (broadcastInDim S1x1x64 ![2] bcast_S64_S1x1x64_2 : (⟨S64, .i32⟩ : BufTy).Contents (Elt F) → (⟨S1x1x64, .i32⟩ : BufTy).Contents (Elt F)),
    StableHlo.nullary main_cst_11 (constant S_ .f32 0x00000000#32),
    StableHlo.unary main_cst_11 main_v61 (broadcastInDim S256x64x64 ![] bcast_S_S256x64x64 : (⟨S_, .f32⟩ : BufTy).Contents (Elt F) → (⟨S256x64x64, .f32⟩ : BufTy).Contents (Elt F)),
    StableHlo.nullary main_c_12 (constantI S_ 32 0#32),
    StableHlo.nullary main_c_13 (constantI S_ 32 0#32),
    StableHlo.unary main_v58 main_v62_0 id,
    StableHlo.unary main_v60 main_v62_1 id,
    StableHlo.unary main_c_13 main_v62_2 id,
    StableHlo.unary main_c_12 main_v62_3 id,
    StableHlo.unary main_v56 main_v62_4 id,
    StableHlo.unary main_v61 main_v62_5 id ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @main, window 1 (statements 61 … 91), in order. -/
abbrev main_part1_ops2 : List (HloOp τ sig (Elt F)) :=
  [ StableHlo.binary main_v62_5 main_v5 main_v63 ((fun l r => Host.dotGeneral dot_S256x64x64_S256x64x4096_S256x64x4096_1_1_2_2_0_0 none l r) : (⟨S256x64x64, .f32⟩ : BufTy).Contents (Elt F) → (⟨S256x64x4096, .f32⟩ : BufTy).Contents (Elt F) → (⟨S256x64x4096, .f32⟩ : BufTy).Contents (Elt F)) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  StableHlo.binary_bufs_sub ..
/-- The last window of `main` (`main_part1`, statements 61 … 91) is the chain of ITS items, each item aligned with the window's
    statements, then `chain_rfl`. -/
theorem main_part1_chain (c : Dev nD) : main_part1 (F := F) c = (Pipeline.chain
  [ StableHlo.seq main_part1_ops0,
    HostLoop.enter 0,
    StableHlo.seq main_part1_ops1,
    HostLoop.enter 1,
    StableHlo.seq main_part1_ops2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists. -/
theorem main_chain_windows (c : Dev nD) : main (F := F) c = (Pipeline.chain
  [ StableHlo.seq main_part0_ops0,
    StableHlo.seq main_part0_ops1,
    StableHlo.seq main_part0_ops2,
    StableHlo.seq main_part1_ops0,
    HostLoop.enter 0,
    StableHlo.seq main_part1_ops1,
    HostLoop.enter 1,
    StableHlo.seq main_part1_ops2 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- 38 host operations of host loop 0's body region, in order. -/
abbrev while0Ops0 : List (HloOp τ sig (Elt F)) :=
  ( StableHlo.nullary main_while0b_c_17 (constantI S_ 32 1#32)
  :: StableHlo.binary main_v55_2 main_while0b_c_17 main_while0b_v64 (addi : (⟨S_, .i32⟩ : BufTy).Contents (Elt F) → (⟨S_, .i32⟩ : BufTy).Contents (Elt F) → (⟨S_, .i32⟩ : BufTy).Contents (Elt F))
  :: StableHlo.nullary main_while0b_c_18 (constantI S_ 32 0#32)
  :: StableHlo.binary main_v55_2 main_while0b_c_18 main_while0b_v65 (cmpi .slt : (⟨S_, .i32⟩ : BufTy).Contents (Elt F) → (⟨S_, .i32⟩ : BufTy).Contents (Elt F) → (⟨S_, .i1⟩ : BufTy).Contents (Elt F))
  :: StableHlo.unary main_v55_2 main_while0b_v66 (id : (⟨S_, .i32⟩ : BufTy).Contents (Elt F) → (⟨S_, .i32⟩ : BufTy).Contents (Elt F))
  :: StableHlo.nullary main_while0b_c_19 (constantI S_ 32 128#32)
  :: StableHlo.binary main_while0b_v66 main_while0b_c_19 main_while0b_v67 (addi : (⟨S_, .i32⟩ : BufTy).Contents (Elt F) → (⟨S_, .i32⟩ : BufTy).Contents (Elt F) → (⟨S_, .i32⟩ : BufTy).Contents (Elt F))
  :: StableHlo.ternary main_while0b_v65 main_while0b_v67 main_v55_2 main_while0b_v68 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_20 (constantI S_ 32 0#32)
  :: StableHlo.nullary main_while0b_c_21 (constantI S_ 32 0#32)
  :: StableHlo.unaryIndexed main_v55_3 ![main_while0b_c_20, main_while0b_c_21, main_while0b_v68] ⟨S_, .i32⟩ main_while0b_v69 ((fun x i => Host.dynamicSlice S256x64x1 x (fun k => (i k (Shape.Idx.first h_S_)).toInt) sliceFits_S256x64x128_S256x64x1) : (⟨S256x64x128, .f32⟩ : BufTy).Contents (Elt F) → (Fin 3 → (⟨S_, .i32⟩ : BufTy).Contents (Elt F)) → (⟨S256x64x1, .f32⟩ : BufTy).Contents (Elt F))
  :: StableHlo.nullary main_while0b_c_22 (constantI S_ 32 0#32)
  :: StableHlo.binary main_v55_2 main_while0b_c_22 main_while0b_v70 (cmpi .slt : (⟨S_, .i32⟩ : BufTy).Contents (Elt F) → (⟨S_, .i32⟩ : BufTy).Contents (Elt F) → (⟨S_, .i1⟩ : BufTy).Contents (Elt F))
  :: StableHlo.unary main_v55_2 main_while0b_v71 (id : (⟨S_, .i32⟩ : BufTy).Contents (Elt F) → (⟨S_, .i32⟩ : BufTy).Contents (Elt F))
  :: StableHlo.nullary main_while0b_c_23 (constantI S_ 32 64#32)
  :: StableHlo.binary main_while0b_v71 main_while0b_c_23 main_while0b_v72 (addi : (⟨S_, .i32⟩ : BufTy).Contents (Elt F) → (⟨S_, .i32⟩ : BufTy).Contents (Elt F) → (⟨S_, .i32⟩ : BufTy).Contents (Elt F))
  :: StableHlo.ternary main_while0b_v70 main_while0b_v72 main_v55_2 main_while0b_v73 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_24 (constantI S_ 32 0#32)
  :: StableHlo.nullary main_while0b_c_25 (constantI S_ 32 0#32)
  :: StableHlo.unaryIndexed main_v55_3 ![main_while0b_c_24, main_while0b_v73, main_while0b_c_25] ⟨S_, .i32⟩ main_while0b_v74 ((fun x i => Host.dynamicSlice S256x1x128 x (fun k => (i k (Shape.Idx.first h_S_)).toInt) sliceFits_S256x64x128_S256x1x128) : (⟨S256x64x128, .f32⟩ : BufTy).Contents (Elt F) → (Fin 3 → (⟨S_, .i32⟩ : BufTy).Contents (Elt F)) → (⟨S256x1x128, .f32⟩ : BufTy).Contents (Elt F))
  :: StableHlo.nullary main_while0b_c_26 (constantI S_ 32 0#32)
  :: StableHlo.binary main_v55_2 main_while0b_c_26 main_while0b_v75 (cmpi .slt : (⟨S_, .i32⟩ : BufTy).Contents (Elt F) → (⟨S_, .i32⟩ : BufTy).Contents (Elt F) → (⟨S_, .i1⟩ : BufTy).Contents (Elt F))
  :: StableHlo.unary main_v55_2 main_while0b_v76 (id : (⟨S_, .i32⟩ : BufTy).Contents (Elt F) → (⟨S_, .i32⟩ : BufTy).Contents (Elt F))
  :: StableHlo.nullary main_while0b_c_27 (constantI S_ 32 128#32)
  :: StableHlo.binary main_while0b_v76 main_while0b_c_27 main_while0b_v77 (addi : (⟨S_, .i32⟩ : BufTy).Contents (Elt F) → (⟨S_, .i32⟩ : BufTy).Contents (Elt F) → (⟨S_, .i32⟩ : BufTy).Contents (Elt F))
  :: StableHlo.ternary main_while0b_v75 main_while0b_v77 main_v55_2 main_while0b_v78 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_28 (constantI S_ 32 0#32)
  :: StableHlo.nullary main_while0b_c_29 (constantI S_ 32 0#32)
  :: StableHlo.unaryIndexed main_while0b_v74 ![main_while0b_c_28, main_while0b_c_29, main_while0b_v78] ⟨S_, .i32⟩ main_while0b_v79 ((fun x i => Host.dynamicSlice S256x1x1 x (fun k => (i k (Shape.Idx.first h_S_)).toInt) sliceFits_S256x1x128_S256x1x1) : (⟨S256x1x128, .f32⟩ : BufTy).Contents (Elt F) → (Fin 3 → (⟨S_, .i32⟩ : BufTy).Contents (Elt F)) → (⟨S256x1x1, .f32⟩ : BufTy).Contents (Elt F))
  :: StableHlo.unary main_while0b_v79 main_while0b_v80 (broadcastInDim S256x1x128 ![0, 1, 2] bcast_S256x1x1_S256x1x128_0_1_2 : (⟨S256x1x1, .f32⟩ : BufTy).Contents (Elt F) → (⟨S256x1x128, .f32⟩ : BufTy).Contents (Elt F))
  :: StableHlo.binary main_while0b_v74 main_while0b_v80 main_while0b_v81 (Host.divf : (⟨S256x1x128, .f32⟩ : BufTy).Contents (Elt F) → (⟨S256x1x128, .f32⟩ : BufTy).Contents (Elt F) → (⟨S256x1x128, .f32⟩ : BufTy).Contents (Elt F))
  :: StableHlo.unary main_v55_2 main_while0b_v82 (id : (⟨S_, .i32⟩ : BufTy).Contents (Elt F) → (⟨S_, .i32⟩ : BufTy).Contents (Elt F))
  :: StableHlo.unary main_while0b_v82 main_while0b_v83 (broadcastInDim S1x64x1 ![] bcast_S_S1x64x1 : (⟨S_, .i32⟩ : BufTy).Contents (Elt F) → (⟨S1x64x1, .i32⟩ : BufTy).Contents (Elt F))
  :: StableHlo.binary main_v55_0 main_while0b_v83 main_while0b_v84 (cmpi .eq : (⟨S1x64x1, .i32⟩ : BufTy).Contents (Elt F) → (⟨S1x64x1, .i32⟩ : BufTy).Contents (Elt F) → (⟨S1x64x1, .i1⟩ : BufTy).Contents (Elt F))
  :: StableHlo.unary main_while0b_v69 main_while0b_v85 (broadcastInDim S256x64x128 ![0, 1, 2] bcast_S256x64x1_S256x64x128_0_1_2 : (⟨S256x64x1, .f32⟩ : BufTy).Contents (Elt F) → (⟨S256x64x128, .f32⟩ : BufTy).Contents (Elt F))
  :: StableHlo.unary main_while0b_v81 main_while0b_v86 (broadcastInDim S256x64x128 ![0, 1, 2] bcast_S256x1x128_S256x64x128_0_1_2 : (⟨S256x1x128, .f32⟩ : BufTy).Contents (Elt F) → (⟨S256x64x128, .f32⟩ : BufTy).Contents (Elt F))
  :: StableHlo.binary main_while0b_v85 main_while0b_v86 main_while0b_v87 (mulf : (⟨S256x64x128, .f32⟩ : BufTy).Contents (Elt F) → (⟨S256x64x128, .f32⟩ : BufTy).Contents (Elt F) → (⟨S256x64x128, .f32⟩ : BufTy).Contents (Elt F))
  :: StableHlo.binary main_v55_3 main_while0b_v87 main_while0b_v88 (subf : (⟨S256x64x128, .f32⟩ : BufTy).Contents (Elt F) → (⟨S256x64x128, .f32⟩ : BufTy).Contents (Elt F) → (⟨S256x64x128, .f32⟩ : BufTy).Contents (Elt F))
  :: [] )
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub ..⟩
/-- 3 host operations of @_where_0 (main_while0b_call1), in order. -/
abbrev while0Ops0_1 : List (HloOp τ sig (Elt F)) :=
  [ StableHlo.TRef.unary (.of main_while0b_v84 : StableHlo.TRef sig ⟨S1x64x1, .i1⟩) (.of main_while0b_call1_v0 : StableHlo.TRef sig ⟨S256x64x128, .i1⟩) (broadcastInDim S256x64x128 ![0, 1, 2] bcast_S1x64x1_S256x64x128_0_1_2),
    StableHlo.TRef.unary (.of main_while0b_v81 : StableHlo.TRef sig ⟨S256x1x128, .f32⟩) (.of main_while0b_call1_v1 : StableHlo.TRef sig ⟨S256x64x128, .f32⟩) (broadcastInDim S256x64x128 ![0, 1, 2] bcast_S256x1x128_S256x64x128_0_1_2),
    StableHlo.TRef.ternary (.of main_while0b_call1_v0 : StableHlo.TRef sig ⟨S256x64x128, .i1⟩) (.of main_while0b_call1_v1 : StableHlo.TRef sig ⟨S256x64x128, .f32⟩) (.of main_while0b_v88 : StableHlo.TRef sig ⟨S256x64x128, .f32⟩) (.of main_while0b_v89 : StableHlo.TRef sig ⟨S256x64x128, .f32⟩) select ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.unary_bufs_sub .., StableHlo.ternary_bufs_sub ..⟩
/-- 5 host operations of host loop 0's body region, in order. -/
abbrev while0Ops0_2 : List (HloOp τ sig (Elt F)) :=
  [ StableHlo.nullary main_while0b_c_30 (constantI S_ 32 1#32),
    StableHlo.binary main_v55_1 main_while0b_c_30 main_while0b_v90 (addi : (⟨S_, .i32⟩ : BufTy).Contents (Elt F) → (⟨S_, .i32⟩ : BufTy).Contents (Elt F) → (⟨S_, .i32⟩ : BufTy).Contents (Elt F)),
    StableHlo.unary main_while0b_v90 main_v55_1 id,
    StableHlo.unary main_while0b_v64 main_v55_2 id,
    StableHlo.unary main_while0b_v89 main_v55_3 id ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- 27 host operations of host loop 1's body region, in order. -/
abbrev while1Ops0 : List (HloOp τ sig (Elt F)) :=
  [ StableHlo.nullary main_while1b_c_19 (constantI S_ 32 1#32),
    StableHlo.binary main_v62_3 main_while1b_c_19 main_while1b_v64 (addi : (⟨S_, .i32⟩ : BufTy).Contents (Elt F) → (⟨S_, .i32⟩ : BufTy).Contents (Elt F) → (⟨S_, .i32⟩ : BufTy).Contents (Elt F)),
    StableHlo.nullary main_while1b_c_20 (constantI S_ 32 0#32),
    StableHlo.binary main_v62_3 main_while1b_c_20 main_while1b_v65 (cmpi .slt : (⟨S_, .i32⟩ : BufTy).Contents (Elt F) → (⟨S_, .i32⟩ : BufTy).Contents (Elt F) → (⟨S_, .i1⟩ : BufTy).Contents (Elt F)),
    StableHlo.unary main_v62_3 main_while1b_v66 (id : (⟨S_, .i32⟩ : BufTy).Contents (Elt F) → (⟨S_, .i32⟩ : BufTy).Contents (Elt F)),
    StableHlo.nullary main_while1b_c_21 (constantI S_ 32 64#32),
    StableHlo.binary main_while1b_v66 main_while1b_c_21 main_while1b_v67 (addi : (⟨S_, .i32⟩ : BufTy).Contents (Elt F) → (⟨S_, .i32⟩ : BufTy).Contents (Elt F) → (⟨S_, .i32⟩ : BufTy).Contents (Elt F)),
    StableHlo.ternary main_while1b_v65 main_while1b_v67 main_v62_3 main_while1b_v68 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while1b_c_22 (constantI S_ 32 0#32),
    StableHlo.nullary main_while1b_c_23 (constantI S_ 32 0#32),
    StableHlo.unaryIndexed main_v62_4 ![main_while1b_c_22, main_while1b_c_23, main_while1b_v68] ⟨S_, .i32⟩ main_while1b_v69 ((fun x i => Host.dynamicSlice S256x64x1 x (fun k => (i k (Shape.Idx.first h_S_)).toInt) sliceFits_S256x64x64_S256x64x1) : (⟨S256x64x64, .f32⟩ : BufTy).Contents (Elt F) → (Fin 3 → (⟨S_, .i32⟩ : BufTy).Contents (Elt F)) → (⟨S256x64x1, .f32⟩ : BufTy).Contents (Elt F)),
    StableHlo.nullary main_while1b_c_24 (constantI S_ 32 0#32),
    StableHlo.binary main_v62_3 main_while1b_c_24 main_while1b_v70 (cmpi .slt : (⟨S_, .i32⟩ : BufTy).Contents (Elt F) → (⟨S_, .i32⟩ : BufTy).Contents (Elt F) → (⟨S_, .i1⟩ : BufTy).Contents (Elt F)),
    StableHlo.unary main_v62_3 main_while1b_v71 (id : (⟨S_, .i32⟩ : BufTy).Contents (Elt F) → (⟨S_, .i32⟩ : BufTy).Contents (Elt F)),
    StableHlo.nullary main_while1b_c_25 (constantI S_ 32 64#32),
    StableHlo.binary main_while1b_v71 main_while1b_c_25 main_while1b_v72 (addi : (⟨S_, .i32⟩ : BufTy).Contents (Elt F) → (⟨S_, .i32⟩ : BufTy).Contents (Elt F) → (⟨S_, .i32⟩ : BufTy).Contents (Elt F)),
    StableHlo.ternary main_while1b_v70 main_while1b_v72 main_v62_3 main_while1b_v73 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while1b_c_26 (constantI S_ 32 0#32),
    StableHlo.nullary main_while1b_c_27 (constantI S_ 32 0#32),
    StableHlo.unaryIndexed main_while1b_v69 ![main_while1b_c_26, main_while1b_v73, main_while1b_c_27] ⟨S_, .i32⟩ main_while1b_v74 ((fun x i => Host.dynamicSlice S256x1x1 x (fun k => (i k (Shape.Idx.first h_S_)).toInt) sliceFits_S256x64x1_S256x1x1) : (⟨S256x64x1, .f32⟩ : BufTy).Contents (Elt F) → (Fin 3 → (⟨S_, .i32⟩ : BufTy).Contents (Elt F)) → (⟨S256x1x1, .f32⟩ : BufTy).Contents (Elt F)),
    StableHlo.unary main_v62_3 main_while1b_v75 (id : (⟨S_, .i32⟩ : BufTy).Contents (Elt F) → (⟨S_, .i32⟩ : BufTy).Contents (Elt F)),
    StableHlo.unary main_while1b_v75 main_while1b_v76 (broadcastInDim S1x64x1 ![] bcast_S_S1x64x1 : (⟨S_, .i32⟩ : BufTy).Contents (Elt F) → (⟨S1x64x1, .i32⟩ : BufTy).Contents (Elt F)),
    StableHlo.binary main_v62_0 main_while1b_v76 main_while1b_v77 (cmpi .sge : (⟨S1x64x1, .i32⟩ : BufTy).Contents (Elt F) → (⟨S1x64x1, .i32⟩ : BufTy).Contents (Elt F) → (⟨S1x64x1, .i1⟩ : BufTy).Contents (Elt F)),
    StableHlo.unary main_while1b_v74 main_while1b_v78 (Host.sqrt : (⟨S256x1x1, .f32⟩ : BufTy).Contents (Elt F) → (⟨S256x1x1, .f32⟩ : BufTy).Contents (Elt F)),
    StableHlo.unary main_while1b_v78 main_while1b_v79 (broadcastInDim S256x64x1 ![0, 1, 2] bcast_S256x1x1_S256x64x1_0_1_2 : (⟨S256x1x1, .f32⟩ : BufTy).Contents (Elt F) → (⟨S256x64x1, .f32⟩ : BufTy).Contents (Elt F)),
    StableHlo.binary main_while1b_v69 main_while1b_v79 main_while1b_v80 (Host.divf : (⟨S256x64x1, .f32⟩ : BufTy).Contents (Elt F) → (⟨S256x64x1, .f32⟩ : BufTy).Contents (Elt F) → (⟨S256x64x1, .f32⟩ : BufTy).Contents (Elt F)),
    StableHlo.nullary main_while1b_cst_28 (constant S_ .f32 0x00000000#32) ]
/-- Each touches TensorCore references only (`HostSeg.ofOps` over `StableHlo.tcRefs`, or a subset by `sub_ucRefs`). -/
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub ..⟩
/-- 4 host operations of @_where_1 (main_while1b_call2), in order. -/
abbrev while1Ops0_1 : List (HloOp τ sig (Elt F)) :=
  [ StableHlo.TRef.unary (.of main_while1b_cst_28 : StableHlo.TRef sig ⟨S_, .f32⟩) (.of main_while1b_call2_v0 : StableHlo.TRef sig ⟨S_, .f32⟩) id,
    StableHlo.TRef.unary (.of main_while1b_v77 : StableHlo.TRef sig ⟨S1x64x1, .i1⟩) (.of main_while1b_call2_v1 : StableHlo.TRef sig ⟨S256x64x1, .i1⟩) (broadcastInDim S256x64x1 ![0, 1, 2] bcast_S1x64x1_S256x64x1_0_1_2),
    StableHlo.TRef.unary (.of main_while1b_call2_v0 : StableHlo.TRef sig ⟨S_, .f32⟩) (.of main_while1b_call2_v2 : StableHlo.TRef sig ⟨S256x64x1, .f32⟩) (broadcastInDim S256x64x1 ![] bcast_S_S256x64x1),
    StableHlo.TRef.ternary (.of main_while1b_call2_v1 : StableHlo.TRef sig ⟨S256x64x1, .i1⟩) (.of main_while1b_v80 : StableHlo.TRef sig ⟨S256x64x1, .f32⟩) (.of main_while1b_call2_v2 : StableHlo.TRef sig ⟨S256x64x1, .f32⟩) (.of main_while1b_v81 : StableHlo.TRef sig ⟨S256x64x1, .f32⟩) select ]
/-- Each touches TensorCore references only (`HostSeg.ofOps` over `StableHlo.tcRefs`, or a subset by `sub_ucRefs`). -/
theorem while1Ops0_1_sub : (while1Ops0_1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 8 host operations of host loop 1's body region, in order. -/
abbrev while1Ops0_2 : List (HloOp τ sig (Elt F)) :=
  [ StableHlo.unary main_while1b_v81 main_while1b_v82 ((transpose S256x1x64 [0, 2, 1] · transposes_S256x64x1_S256x1x64_0_2_1) : (⟨S256x64x1, .f32⟩ : BufTy).Contents (Elt F) → (⟨S256x1x64, .f32⟩ : BufTy).Contents (Elt F)),
    StableHlo.unary main_while1b_v81 main_while1b_v83 (broadcastInDim S256x64x64 ![0, 1, 2] bcast_S256x64x1_S256x64x64_0_1_2 : (⟨S256x64x1, .f32⟩ : BufTy).Contents (Elt F) → (⟨S256x64x64, .f32⟩ : BufTy).Contents (Elt F)),
    StableHlo.unary main_while1b_v82 main_while1b_v84 (broadcastInDim S256x64x64 ![0, 1, 2] bcast_S256x1x64_S256x64x64_0_1_2 : (⟨S256x1x64, .f32⟩ : BufTy).Contents (Elt F) → (⟨S256x64x64, .f32⟩ : BufTy).Contents (Elt F)),
    StableHlo.binary main_while1b_v83 main_while1b_v84 main_while1b_v85 (mulf : (⟨S256x64x64, .f32⟩ : BufTy).Contents (Elt F) → (⟨S256x64x64, .f32⟩ : BufTy).Contents (Elt F) → (⟨S256x64x64, .f32⟩ : BufTy).Contents (Elt F)),
    StableHlo.binary main_v62_4 main_while1b_v85 main_while1b_v86 (subf : (⟨S256x64x64, .f32⟩ : BufTy).Contents (Elt F) → (⟨S256x64x64, .f32⟩ : BufTy).Contents (Elt F) → (⟨S256x64x64, .f32⟩ : BufTy).Contents (Elt F)),
    StableHlo.unary main_v62_3 main_while1b_v87 (id : (⟨S_, .i32⟩ : BufTy).Contents (Elt F) → (⟨S_, .i32⟩ : BufTy).Contents (Elt F)),
    StableHlo.unary main_while1b_v87 main_while1b_v88 (broadcastInDim S1x1x64 ![] bcast_S_S1x1x64 : (⟨S_, .i32⟩ : BufTy).Contents (Elt F) → (⟨S1x1x64, .i32⟩ : BufTy).Contents (Elt F)),
    StableHlo.binary main_v62_1 main_while1b_v88 main_while1b_v89 (cmpi .eq : (⟨S1x1x64, .i32⟩ : BufTy).Contents (Elt F) → (⟨S1x1x64, .i32⟩ : BufTy).Contents (Elt F) → (⟨S1x1x64, .i1⟩ : BufTy).Contents (Elt F)) ]
/-- Each touches TensorCore references only (`HostSeg.ofOps` over `StableHlo.tcRefs`, or a subset by `sub_ucRefs`). -/
theorem while1Ops0_2_sub : (while1Ops0_2 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
/-- 3 host operations of @_where_2 (main_while1b_call3), in order. -/
abbrev while1Ops0_3 : List (HloOp τ sig (Elt F)) :=
  [ StableHlo.TRef.unary (.of main_while1b_v89 : StableHlo.TRef sig ⟨S1x1x64, .i1⟩) (.of main_while1b_call3_v0 : StableHlo.TRef sig ⟨S256x64x64, .i1⟩) (broadcastInDim S256x64x64 ![0, 1, 2] bcast_S1x1x64_S256x64x64_0_1_2),
    StableHlo.TRef.unary (.of main_while1b_v81 : StableHlo.TRef sig ⟨S256x64x1, .f32⟩) (.of main_while1b_call3_v1 : StableHlo.TRef sig ⟨S256x64x64, .f32⟩) (broadcastInDim S256x64x64 ![0, 1, 2] bcast_S256x64x1_S256x64x64_0_1_2),
    StableHlo.TRef.ternary (.of main_while1b_call3_v0 : StableHlo.TRef sig ⟨S256x64x64, .i1⟩) (.of main_while1b_call3_v1 : StableHlo.TRef sig ⟨S256x64x64, .f32⟩) (.of main_v62_5 : StableHlo.TRef sig ⟨S256x64x64, .f32⟩) (.of main_while1b_v90 : StableHlo.TRef sig ⟨S256x64x64, .f32⟩) select ]
/-- Each touches TensorCore references only (`HostSeg.ofOps` over `StableHlo.tcRefs`, or a subset by `sub_ucRefs`). -/
theorem while1Ops0_3_sub : (while1Ops0_3 : List (HloOp τ sig (Elt F))).Forall fun op => op.bufs ⊆ StableHlo.tcRefs τ sig :=
  ⟨StableHlo.unary_bufs_sub .., StableHlo.unary_bufs_sub .., StableHlo.ternary_bufs_sub ..⟩
/-- 6 host operations of host loop 1's body region, in order. -/
abbrev while1Ops0_4 : List (HloOp τ sig (Elt F)) :=
  [ StableHlo.nullary main_while1b_c_29 (constantI S_ 32 1#32),
    StableHlo.binary main_v62_2 main_while1b_c_29 main_while1b_v91 (addi : (⟨S_, .i32⟩ : BufTy).Contents (Elt F) → (⟨S_, .i32⟩ : BufTy).Contents (Elt F) → (⟨S_, .i32⟩ : BufTy).Contents (Elt F)),
    StableHlo.unary main_while1b_v91 main_v62_2 id,
    StableHlo.unary main_while1b_v64 main_v62_3 id,
    StableHlo.unary main_while1b_v86 main_v62_4 id,
    StableHlo.unary main_while1b_v90 main_v62_5 id ]
/-- Each touches TensorCore references only (`HostSeg.ofOps` over `StableHlo.tcRefs`, or a subset by `sub_ucRefs`). -/
theorem while1Ops0_4_sub : (while1Ops0_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while1_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

end Cert.RefLaunch

end
-- ==== Proof.RefRun.lean ====
/- The run of the reference: three pieces of straight-line host operations around two counted host loops. Every run ends with each
   buffer at `endV`, which is written as a fold of the lists of `RefLaunch`. -/
module

public import proofs.«01_k».proof.Proof.RefLaunch

@[expose] public section

set_option maxRecDepth 16384

noncomputable section

namespace Cert.RefRun

open Cert.ReferenceIdeal Cert.ReferenceIdeal.Gen Cert.RefLaunch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

/-- The stretches before the first loop. -/
abbrev preI : List (List (HloOp τ sig (Elt F))) := [main_part0_ops0, main_part0_ops1, main_part0_ops2, main_part1_ops0]
/-- The stretches of the first loop's body. -/
abbrev bodyI0 : List (List (HloOp τ sig (Elt F))) := [while0Ops0, while0Ops0_1, while0Ops0_2]
/-- The stretch between the two loops. -/
abbrev midI : List (List (HloOp τ sig (Elt F))) := [main_part1_ops1]
/-- The stretches of the second loop's body. -/
abbrev bodyI1 : List (List (HloOp τ sig (Elt F))) := [while1Ops0, while1Ops0_1, while1Ops0_2, while1Ops0_3, while1Ops0_4]
/-- The stretch after the second loop. -/
abbrev postI : List (List (HloOp τ sig (Elt F))) := [main_part1_ops2]

/-- The operations of the first loop's condition. -/
abbrev condOps0 : List (HloOp τ sig (Elt F)) :=
  [ StableHlo.nullary main_while0c_c_17 (constantI S_ 32 64#32),
    StableHlo.binary main_v55_1 main_while0c_c_17 main_while0c_v64 (cmpi .slt) ]
/-- The operations of the second loop's condition. -/
abbrev condOps1 : List (HloOp τ sig (Elt F)) :=
  [ StableHlo.nullary main_while1c_c_19 (constantI S_ 32 64#32),
    StableHlo.binary main_v62_2 main_while1c_c_19 main_while1c_v64 (cmpi .slt) ]

theorem plain_pre : Plain (preI (F := F)) :=
  .cons main_part0_ops0_sub (hf := List.forall_iff_forall_mem.mp (forall_fresh_of_map rfl)) <|
  .cons main_part0_ops1_sub (hf := List.forall_iff_forall_mem.mp (forall_fresh_of_map rfl)) <|
  .cons main_part0_ops2_sub (hf := List.forall_iff_forall_mem.mp (forall_fresh_of_map rfl)) <|
  .cons main_part1_ops0_sub (hf := List.forall_iff_forall_mem.mp (forall_fresh_of_map rfl)) .nil
theorem plain_body0 : Plain (bodyI0 (F := F)) :=
  .cons while0Ops0_sub (hf := List.forall_iff_forall_mem.mp (forall_fresh_of_map rfl)) <|
  .cons while0Ops0_1_sub (hf := List.forall_iff_forall_mem.mp (forall_fresh_of_map rfl)) <|
  .cons while0Ops0_2_sub (hf := List.forall_iff_forall_mem.mp (forall_fresh_of_map rfl)) .nil
theorem plain_mid : Plain (midI (F := F)) :=
  .cons main_part1_ops1_sub (hf := List.forall_iff_forall_mem.mp (forall_fresh_of_map rfl)) .nil
theorem plain_body1 : Plain (bodyI1 (F := F)) :=
  .cons while1Ops0_sub (hf := List.forall_iff_forall_mem.mp (forall_fresh_of_map rfl)) <|
  .cons while1Ops0_1_sub (hf := List.forall_iff_forall_mem.mp (forall_fresh_of_map rfl)) <|
  .cons while1Ops0_2_sub (hf := List.forall_iff_forall_mem.mp (forall_fresh_of_map rfl)) <|
  .cons while1Ops0_3_sub (hf := List.forall_iff_forall_mem.mp (forall_fresh_of_map rfl)) <|
  .cons while1Ops0_4_sub (hf := List.forall_iff_forall_mem.mp (forall_fresh_of_map rfl)) .nil
theorem plain_post : Plain (postI (F := F)) :=
  .cons main_part1_ops2_sub (hf := List.forall_iff_forall_mem.mp (forall_fresh_of_map rfl)) .nil

variable (m : (ℓ : Loc nD τ sig) → Buf (Elt F) ℓ) (ρ : Dev nD → PrngReg)

/-- Every buffer as the first loop is entered. -/
def entry0 (c : Dev nD) : Valuation τ sig (Elt F) := afterL preI (launchContents m c)
/-- Every buffer before the `k`-th test of the first loop. -/
def trip0 (k : ℕ) (c : Dev nD) : Valuation τ sig (Elt F) := atTrip condOps0 bodyI0 (entry0 m) k c
/-- Every buffer as the second loop is entered. -/
def entry1 (c : Dev nD) : Valuation τ sig (Elt F) := afterL midI (after condOps0 (trip0 m 64 c))
/-- Every buffer before the `k`-th test of the second loop. -/
def trip1 (k : ℕ) (c : Dev nD) : Valuation τ sig (Elt F) := atTrip condOps1 bodyI1 (entry1 m) k c
/-- Every buffer at the end. -/
def endV (c : Dev nD) : Valuation τ sig (Elt F) := afterL postI (after condOps1 (trip1 m 64 c))

/-- One round of the first loop adds one to its counter. -/
theorem ctr_round0 (V : Valuation τ sig (Elt F)) :
    afterL bodyI0 (after condOps0 V) (Proc.devRef .tc main_v55_1) = addi (V (Proc.devRef .tc main_v55_1)) (constantI S_ 32 1#32) := by
  simp only [afterL_cons, afterL_nil]
  after_reads_simp
  rfl

/-- One round of the second loop adds one to its counter. -/
theorem ctr_round1 (V : Valuation τ sig (Elt F)) :
    afterL bodyI1 (after condOps1 V) (Proc.devRef .tc main_v62_2) = addi (V (Proc.devRef .tc main_v62_2)) (constantI S_ 32 1#32) := by
  simp only [afterL_cons, afterL_nil]
  after_reads_simp
  rfl

theorem ctr_start0 (c : Dev nD) : entry0 m c (Proc.devRef .tc main_v55_1) = fun _ => (0#32 : BitVec 32) := by
  simp only [entry0, afterL_cons, afterL_nil]
  after_reads_simp
  rfl

theorem ctr_start1 (c : Dev nD) : entry1 m c (Proc.devRef .tc main_v62_2) = fun _ => (0#32 : BitVec 32) := by
  simp only [entry1, afterL_cons, afterL_nil]
  after_reads_simp
  rfl

/-- The first loop's counter before its `k`-th test. -/
theorem ctr0 (c : Dev nD) : ∀ k, trip0 m k c (Proc.devRef .tc main_v55_1) = fun _ => Scf.iv 0#32 1#32 k
  | 0 => by
    rw [Scf.iv_zero]; exact ctr_start0 m c
  | k + 1 => by
    have h := ctr_round0 (trip0 m k c)
    rw [ctr0 c k] at h
    rw [Scf.iv_succ]
    exact h

/-- The second loop's counter before its `k`-th test. -/
theorem ctr1 (c : Dev nD) : ∀ k, trip1 m k c (Proc.devRef .tc main_v62_2) = fun _ => Scf.iv 0#32 1#32 k
  | 0 => by
    rw [Scf.iv_zero]; exact ctr_start1 m c
  | k + 1 => by
    have h := ctr_round1 (trip1 m k c)
    rw [ctr1 c k] at h
    rw [Scf.iv_succ]
    exact h

/-- The machinery of host loops at a program with no kernel: nothing admitted, no ticket, no level. -/
abbrev adm₀ : (p : Fin 0) → (pcfgs (F := F) p).Adm := fun p => p.elim0
abbrev tk₀ : Fin 0 → Ticket (Ix := Unit) (Name := ℕ) (U := Option PUnit) (Lvl := ℕ) (nD := nD) (τ := τ) (pcfgs (F := F)) (adm₀ (F := F)) :=
  fun j => j.elim0
abbrev lset : GSem nD τ sig → Finset Unit := fun _ => ∅
abbrev llv : GSem nD τ sig → Unit → ℕ := fun _ _ => 0
/-- What a core owes, carried beside its buffers. -/
abbrev rest (c : Dev nD) : sProp (MT nD τ sig Unit (Elt F) ℕ (Option PUnit) ℕ) :=
  iprop(∃ W, owes (c : Thread nD τ) (0 : CellTallies nD τ sig Unit) W)

set_option backward.isDefEq.respectTransparency.types false in
/-- The first loop's test: true exactly before the first 64 rounds. -/
theorem test0 : LoopCond (Ix := Unit) (Name := ℕ) (U := Option PUnit) (Lvl := ℕ) (pcfgs (F := F)) defs₀ Variants.none loops rest
    (main_while0_cond (F := F)) condOps0 bodyI0 (entry0 m) 64 := by
  intro k hk c bd
  have hctr := ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip0 m k c) main_v55_1 HostLoop.idx0)
        (HloOp.result _ (trip0 m k c) main_while0c_c_17 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]
  · rw [after_cons, after_cons, after_nil]; iexact Hh
  iexact HR

set_option backward.isDefEq.respectTransparency.types false in
/-- The second loop's test: true exactly before the first 64 rounds. -/
theorem test1 : LoopCond (Ix := Unit) (Name := ℕ) (U := Option PUnit) (Lvl := ℕ) (pcfgs (F := F)) defs₀ Variants.none loops rest
    (main_while1_cond (F := F)) condOps1 bodyI1 (entry1 m) 64 := by
  intro k hk c bd
  have hctr := ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip1 m k c) main_v62_2 HostLoop.idx0)
        (HloOp.result _ (trip1 m k c) main_while1c_c_19 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]
  · rw [after_cons, after_cons, after_nil]; iexact Hh
  iexact HR

/-- The program's pieces, in order, with the two loops between them. -/
def pieces : List (CSeg (pcfgs (F := F)) adm₀ defs₀ Variants.none lset llv loops tk₀) :=
  segsOf _ _ _ _ _ _ _ _ rest preI plain_pre (launchContents m)
    ++ loopSeg _ _ _ _ _ _ _ _ 0 main_while0_cond main_while0_body rfl condOps0 bodyI0 plain_body0 (by rw [while0_body_chain]; rfl) 64 (entry0 m) rest (test0 m)
      :: (segsOf _ _ _ _ _ _ _ _ rest midI plain_mid (fun c => after condOps0 (trip0 m 64 c))
        ++ loopSeg _ _ _ _ _ _ _ _ 1 main_while1_cond main_while1_body rfl condOps1 bodyI1 plain_body1 (by rw [while1_body_chain]; rfl) 64 (entry1 m) rest (test1 m)
          :: segsOf _ _ _ _ _ _ _ _ rest postI plain_post (fun c => after condOps1 (trip1 m 64 c)))

theorem pieces_prog : (pieces m).map CSeg.prog = ([ seq main_part0_ops0, seq main_part0_ops1, seq main_part0_ops2, seq main_part1_ops0,
    HostLoop.enter 0, seq main_part1_ops1, HostLoop.enter 1, seq main_part1_ops2 ] :
      List (Prog (TpuEff nD τ sig (Elt F) (HostLoop.Sig (Pipeline.Sig Λ₀ (Fin 0) fun p => (pcfgs (F := F) p).Adm) 2) .tc) PUnit)) := by
  unfold pieces
  rw [List.map_append, List.map_cons, List.map_append, List.map_cons, segsOf_prog, segsOf_prog, segsOf_prog]
  rfl

theorem pieces_chain :
    CSeg.Chains (fun c => iprop(held (c : Thread nD τ) (ucRefs τ sig) (launchContents m c) ∗ rest c)) (pieces m)
      (fun c => iprop(iprop(held (c : Thread nD τ) (ucRefs τ sig) (endV m c)) ∗ ∃ W, owes (c : Thread nD τ) (0 : CellTallies nD τ sig Unit) W)) := by
  unfold pieces
  exact CSeg.Chains.append (segsOf_chains _ _ _ _ _ _ _ _ rest preI plain_pre _)
    ⟨fun _ => .rfl, CSeg.Chains.append (segsOf_chains _ _ _ _ _ _ _ _ rest midI plain_mid _)
      ⟨fun _ => .rfl, segsOf_chains _ _ _ _ _ _ _ _ rest postI plain_post _⟩⟩

theorem no_cell : Function.Injective (Pipeline.cellOf (nD := nD) (τ := τ) (Pipeline.pin (pcfgs (F := F)) adm₀)) :=
  fun k => k.1.elim0

/-- From any memory with zero counters every fair run of the reference ends, with every tensor buffer at `endV`. -/
theorem run_end [∀ e, Nonempty (Elt F e)] :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = endV m c (Proc.devRef .tc b)) :=
  Pipeline.θ_run_regions_loop_kit (Ix := Unit) (Name := ℕ) (U := Option PUnit) (Lvl := ℕ) (J := Fin 0) (P := Fin 0) (Val := Elt F)
    pcfgs adm₀ no_cell defs₀ Variants.none lset llv loops tk₀ m ρ main (pieces m)
    (fun c Q => by
      rw [main_chain_windows c]
      show wp _ _ _ (Pipeline.chain ((pieces m).map CSeg.prog)) Q ⊢ _
      rw [pieces_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ rest c))
    (Tₙ := fun c => iprop(held (c : Thread nD τ) (ucRefs τ sig) (endV m c)))
    (hch := pieces_chain m)
    (hinit := by
      refine Pipeline.initEach lset llv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = endV m c b)
    (hfin := fun c s' => by
      unfold held
      iintro ⟨Hh, HSI⟩
      ihave Hr := (pointsTo_read_all (ucRefs τ sig) (fun b => ((c : Dev nD), b)) (fun b => endV m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.RefRun

end
-- ==== Proof.RefRead.lean ====
/- The reference's buffers, read in closed form: each stretch of host operations as a function of the buffers it reads. -/
module

public import proofs.«01_k».proof.Proof.RefRun
public import Idealize.ShloMosaic.Lib.StableHlo.RunClose

@[expose] public section

set_option maxRecDepth 16384

noncomputable section

namespace Cert.RefRead

open Cert.ReferenceIdeal Cert.ReferenceIdeal.Gen Cert.RefLaunch Cert.RefRun
open Idealize.ShloMosaic Idealize.ShloMosaic.TcCoe Idealize.ShloMosaic.Tactic
open Idealize.ShloMosaic.StableHlo

variable {F : FTy → Type} [FloatOps F]

/-- A scalar constant laid out over a shape. -/
abbrev splat3 (w : BitVec 32) : FVec F S256x1x1 .f32 := broadcastInDim S256x1x1 ![] bcast_S_S256x1x1 (constant S_ .f32 w)

/-- The signals less their means. -/
def rcen (x : FVec F S256x64x4096 .f32) : FVec F S256x64x4096 .f32 :=
  subf x (broadcastInDim S256x64x4096 ![0, 1, 2] bcast_S256x64x1_S256x64x4096_0_1_2
    (Host.divf (broadcastInDim S256x64x1 ![0, 1] bcast_S256x64_S256x64x1_0_1 (Host.reduceAdd x (constant S_ .f32 0x00000000#32) reducesTo_S256x64x4096_S256x64_d2 h_S_))
      (broadcastInDim S256x64x1 ![] bcast_S_S256x64x1 (constant S_ .f32 0x45800000#32))))

/-- The covariances. -/
def rcov (y : FVec F S256x64x4096 .f32) : FVec F S256x64x64 .f32 :=
  Host.divf (Host.dotGeneral dot_S256x64x4096_S256x64x4096_S256x64x64_2_2_1_1_0_0 none y y)
    (broadcastInDim S256x64x64 ![] bcast_S_S256x64x64 (constant S_ .f32 0x45800000#32))

/-- Where row and column agree. -/
def diag : IVec S64x64 1 :=
  cmpi .eq (addi (iotaInDim S64x64 32 0) (broadcastInDim S64x64 ![] bcast_S_S64x64 (constantI S_ 32 0#32))) (iotaInDim S64x64 32 1)

/-- The identity matrix. -/
def reye : FVec F S1x64x64 .f32 := broadcastInDim S1x64x64 ![1, 2] bcast_S64x64_S1x64x64_1_2 (uitofp .f32 diag)

/-- The traces. -/
def rtr (v : FVec F S256x64x64 .f32) : FVec F S256 .f32 :=
  Host.reduceAdd (select (broadcastInDim S256x64x64 ![1, 2] bcast_S64x64_S256x64x64_1_2 diag) v
    (broadcastInDim S256x64x64 ![] bcast_S_S256x64x64 (constant S_ .f32 0x00000000#32))) (constant S_ .f32 0x00000000#32) reducesTo_S256x64x64_S256_d1_2 h_S_

/-- A per-batch number as a block. -/
abbrev up (t : FVec F S256 .f32) : FVec F S256x1x1 .f32 := broadcastInDim S256x1x1 ![0] bcast_S256_S256x1x1_0 t

/-- The sums of squares. -/
def rt2 (v : FVec F S256x64x64 .f32) : FVec F S256 .f32 := Host.dotGeneral dot_S256x64x64_S256x64x64_S256_12_21_n_n_0_0 none v v

/-- The shrinkage coefficients, from the traces and the sums of squares. -/
def rrho (t q : FVec F S256x1x1 .f32) : FVec F S256x1x1 .f32 :=
  minimumf (Host.divf (addf (mulf (splat3 0x3F7FE000#32) q) (mulf t t))
    (mulf (splat3 0x45801000#32) (subf q (Host.divf (mulf t t) (splat3 0x42800000#32))))) (splat3 0x3F800000#32)

/-- The shrunk covariances. -/
def rshr (t q : FVec F S256x1x1 .f32) (v : FVec F S256x64x64 .f32) (e : FVec F S1x64x64 .f32) : FVec F S256x64x64 .f32 :=
  addf (mulf (broadcastInDim S256x64x64 ![0, 1, 2] bcast_S256x1x1_S256x64x64_0_1_2 (rrho t q))
      (mulf (broadcastInDim S256x64x64 ![0, 1, 2] bcast_S256x1x1_S256x64x64_0_1_2 (Host.divf t (splat3 0x42800000#32)))
        (broadcastInDim S256x64x64 ![0, 1, 2] bcast_S1x64x64_S256x64x64_0_1_2 e)))
    (mulf (broadcastInDim S256x64x64 ![0, 1, 2] bcast_S256x1x1_S256x64x64_0_1_2 (subf (splat3 0x3F800000#32) (rrho t q))) v)

/-- The shrunk covariances beside the identity. -/
def raug (a : FVec F S256x64x64 .f32) (d : IVec S64x64 1) : FVec F S256x64x128 .f32 :=
  concatenate S256x64x128 2 [⟨S256x64x64, a⟩, ⟨S256x64x64, broadcastInDim S256x64x64 ![1, 2] bcast_S64x64_S256x64x64_1_2 (uitofp .f32 d)⟩] concatenates_S256x64x64_S256x64x64_S256x64x128_d2

/-- The row numbers. -/
def rowsV : IVec S1x64x1 32 := broadcastInDim S1x64x1 ![1] bcast_S64_S1x64x1_1 (iotaInDim S64 32 0)
/-- The column numbers. -/
def colsV : IVec S1x1x64 32 := broadcastInDim S1x1x64 ![2] bcast_S64_S1x1x64_2 (iotaInDim S64 32 0)

section Reads
variable (V : Valuation τ sig (Elt F))

theorem r0_v5 : after main_part0_ops0 V (Proc.devRef .tc main_v5) = rcen (V (Proc.devRef .tc main_arg0)) := by
  after_reads_simp
  rfl
theorem r0_v8 : after main_part0_ops0 V (Proc.devRef .tc main_v8) = rcov (rcen (V (Proc.devRef .tc main_arg0))) := by
  after_reads_simp
  rfl
theorem r0_v15 : after main_part0_ops0 V (Proc.devRef .tc main_v15) = reye := by
  after_reads_simp
  rfl

theorem r1_v5 : after main_part0_ops1 V (Proc.devRef .tc main_v5) = V (Proc.devRef .tc main_v5) := by
  after_reads_simp
theorem r1_v8 : after main_part0_ops1 V (Proc.devRef .tc main_v8) = V (Proc.devRef .tc main_v8) := by
  after_reads_simp
theorem r1_v15 : after main_part0_ops1 V (Proc.devRef .tc main_v15) = V (Proc.devRef .tc main_v15) := by
  after_reads_simp
theorem r1_v16 : after main_part0_ops1 V (Proc.devRef .tc main_v16) = rtr (V (Proc.devRef .tc main_v8)) := by
  after_reads_simp
  rfl

theorem r2_v5 : after main_part0_ops2 V (Proc.devRef .tc main_v5) = V (Proc.devRef .tc main_v5) := by
  after_reads_simp
theorem r2_v44 : after main_part0_ops2 V (Proc.devRef .tc main_v44)
    = rshr (up (V (Proc.devRef .tc main_v16))) (up (rt2 (V (Proc.devRef .tc main_v8)))) (V (Proc.devRef .tc main_v8)) (V (Proc.devRef .tc main_v15)) := by
  after_reads_simp
  rfl
theorem r2_v46 : after main_part0_ops2 V (Proc.devRef .tc main_v46) = rowsV := by
  after_reads_simp
  rfl
theorem r2_v47 : after main_part0_ops2 V (Proc.devRef .tc main_v47) = iotaInDim S64x64 32 0 := by
  after_reads_simp
theorem r2_v48 : after main_part0_ops2 V (Proc.devRef .tc main_v48) = iotaInDim S64x64 32 1 := by
  after_reads_simp
theorem r2_c8 : after main_part0_ops2 V (Proc.devRef .tc main_c_8) = constantI S_ 32 0#32 := by
  after_reads_simp

theorem r3_v5 : after main_part1_ops0 V (Proc.devRef .tc main_v5) = V (Proc.devRef .tc main_v5) := by
  after_reads_simp
theorem r3_rows : after main_part1_ops0 V (Proc.devRef .tc main_v55_0) = V (Proc.devRef .tc main_v46) := by
  after_reads_simp
  rfl
theorem r3_j : after main_part1_ops0 V (Proc.devRef .tc main_v55_2) = constantI S_ 32 0#32 := by
  after_reads_simp
  rfl
theorem r3_aug : after main_part1_ops0 V (Proc.devRef .tc main_v55_3)
    = raug (V (Proc.devRef .tc main_v44)) (cmpi .eq (addi (V (Proc.devRef .tc main_v47)) (broadcastInDim S64x64 ![] bcast_S_S64x64 (V (Proc.devRef .tc main_c_8)))) (V (Proc.devRef .tc main_v48))) := by
  after_reads_simp
  rfl

end Reads

/-- The rows the first loop starts from. -/
def aug0 (x : FVec F S256x64x4096 .f32) : FVec F S256x64x128 .f32 :=
  raug (rshr (up (rtr (rcov (rcen x)))) (up (rt2 (rcov (rcen x)))) (rcov (rcen x)) reye) diag

section Entry
variable (m : (ℓ : Loc nD τ sig) → Buf (Elt F) ℓ) (c : Dev nD)

theorem entry_v5 : entry0 m c (Proc.devRef .tc main_v5) = rcen (launchContents m c (Proc.devRef .tc main_arg0)) := by
  simp only [entry0, afterL_cons, afterL_nil]
  rw [r3_v5, r2_v5, r1_v5, r0_v5]
theorem entry_rows : entry0 m c (Proc.devRef .tc main_v55_0) = rowsV := by
  simp only [entry0, afterL_cons, afterL_nil]
  rw [r3_rows, r2_v46]
theorem entry_j : entry0 m c (Proc.devRef .tc main_v55_2) = constantI S_ 32 0#32 := by
  simp only [entry0, afterL_cons, afterL_nil]
  rw [r3_j]
theorem entry_aug : entry0 m c (Proc.devRef .tc main_v55_3) = aug0 (launchContents m c (Proc.devRef .tc main_arg0)) := by
  simp only [entry0, afterL_cons, afterL_nil]
  rw [r3_aug, r2_v44, r2_v47, r2_v48, r2_c8, r1_v8, r1_v15, r1_v16, r0_v8, r0_v15]
  rfl

end Entry

/-- A loop's index, as the slices take it: counted from the end when negative. -/
def wrapJ (n : BitVec 32) (j : IVec S_ 32) : IVec S_ 32 :=
  select (cmpi .slt j (constantI S_ 32 0#32)) (addi j (constantI S_ 32 n)) j

/-- The start of a slice, from its three index words. -/
def start3 (u v w : IVec S_ 32) : Fin 3 → Int := fun k => ((![u, v, w] : Fin 3 → IVec S_ 32) k (Shape.Idx.first h_S_)).toInt

/-- The pivot column, the pivot row and the pivot of the rows. -/
def colOf (j : IVec S_ 32) (a : FVec F S256x64x128 .f32) : FVec F S256x64x1 .f32 :=
  Host.dynamicSlice S256x64x1 a (start3 (constantI S_ 32 0#32) (constantI S_ 32 0#32) (wrapJ 128#32 j)) sliceFits_S256x64x128_S256x64x1
def rowOf (j : IVec S_ 32) (a : FVec F S256x64x128 .f32) : FVec F S256x1x128 .f32 :=
  Host.dynamicSlice S256x1x128 a (start3 (constantI S_ 32 0#32) (wrapJ 64#32 j) (constantI S_ 32 0#32)) sliceFits_S256x64x128_S256x1x128
def pivOf (j : IVec S_ 32) (row : FVec F S256x1x128 .f32) : FVec F S256x1x1 .f32 :=
  Host.dynamicSlice S256x1x1 row (start3 (constantI S_ 32 0#32) (constantI S_ 32 0#32) (wrapJ 128#32 j)) sliceFits_S256x1x128_S256x1x1

/-- The pivot row over the pivot. -/
def rowDiv (j : IVec S_ 32) (a : FVec F S256x64x128 .f32) : FVec F S256x1x128 .f32 :=
  Host.divf (rowOf j a) (broadcastInDim S256x1x128 ![0, 1, 2] bcast_S256x1x1_S256x1x128_0_1_2 (pivOf j (rowOf j a)))

/-- One round of the first loop on the rows. -/
def step0 (rows : IVec S1x64x1 32) (j : IVec S_ 32) (a : FVec F S256x64x128 .f32) : FVec F S256x64x128 .f32 :=
  select (broadcastInDim S256x64x128 ![0, 1, 2] bcast_S1x64x1_S256x64x128_0_1_2 (cmpi .eq rows (broadcastInDim S1x64x1 ![] bcast_S_S1x64x1 j)))
    (broadcastInDim S256x64x128 ![0, 1, 2] bcast_S256x1x128_S256x64x128_0_1_2 (rowDiv j a))
    (subf a (mulf (broadcastInDim S256x64x128 ![0, 1, 2] bcast_S256x64x1_S256x64x128_0_1_2 (colOf j a))
      (broadcastInDim S256x64x128 ![0, 1, 2] bcast_S256x1x128_S256x64x128_0_1_2 (rowDiv j a))))

section Round0
variable (V : Valuation τ sig (Elt F))

theorem round0_rows : afterL bodyI0 (after condOps0 V) (Proc.devRef .tc main_v55_0) = V (Proc.devRef .tc main_v55_0) := by
  simp only [afterL_cons, afterL_nil]
  after_reads_simp
theorem round0_v5 : afterL bodyI0 (after condOps0 V) (Proc.devRef .tc main_v5) = V (Proc.devRef .tc main_v5) := by
  simp only [afterL_cons, afterL_nil]
  after_reads_simp
theorem round0_j : afterL bodyI0 (after condOps0 V) (Proc.devRef .tc main_v55_2) = addi (V (Proc.devRef .tc main_v55_2)) (constantI S_ 32 1#32) := by
  simp only [afterL_cons, afterL_nil]
  after_reads_simp
  rfl
theorem round0_aug : afterL bodyI0 (after condOps0 V) (Proc.devRef .tc main_v55_3)
    = step0 (V (Proc.devRef .tc main_v55_0)) (V (Proc.devRef .tc main_v55_2)) (V (Proc.devRef .tc main_v55_3)) := by
  simp only [afterL_cons, afterL_nil]
  after_reads_simp [unaryIndexed_result_read, indexContents_cons, indexContents_empty, dropContentsCast]
  rfl

end Round0

/-- The pivot column and the pivot of the matrix being factored. -/
def colF (j : IVec S_ 32) (s : FVec F S256x64x64 .f32) : FVec F S256x64x1 .f32 :=
  Host.dynamicSlice S256x64x1 s (start3 (constantI S_ 32 0#32) (constantI S_ 32 0#32) (wrapJ 64#32 j)) sliceFits_S256x64x64_S256x64x1
def pivF (j : IVec S_ 32) (col : FVec F S256x64x1 .f32) : FVec F S256x1x1 .f32 :=
  Host.dynamicSlice S256x1x1 col (start3 (constantI S_ 32 0#32) (wrapJ 64#32 j) (constantI S_ 32 0#32)) sliceFits_S256x64x1_S256x1x1

/-- The second loop's column of the factor. -/
def lcol (rows : IVec S1x64x1 32) (j : IVec S_ 32) (s : FVec F S256x64x64 .f32) : FVec F S256x64x1 .f32 :=
  select (broadcastInDim S256x64x1 ![0, 1, 2] bcast_S1x64x1_S256x64x1_0_1_2 (cmpi .sge rows (broadcastInDim S1x64x1 ![] bcast_S_S1x64x1 j)))
    (Host.divf (colF j s) (broadcastInDim S256x64x1 ![0, 1, 2] bcast_S256x1x1_S256x64x1_0_1_2 (Host.sqrt (pivF j (colF j s)))))
    (broadcastInDim S256x64x1 ![] bcast_S_S256x64x1 (constant S_ .f32 0x00000000#32))

/-- One round of the second loop on the matrix still to be factored. -/
def step1 (rows : IVec S1x64x1 32) (j : IVec S_ 32) (s : FVec F S256x64x64 .f32) : FVec F S256x64x64 .f32 :=
  subf s (mulf (broadcastInDim S256x64x64 ![0, 1, 2] bcast_S256x64x1_S256x64x64_0_1_2 (lcol rows j s))
    (broadcastInDim S256x64x64 ![0, 1, 2] bcast_S256x1x64_S256x64x64_0_1_2 (transpose S256x1x64 [0, 2, 1] (lcol rows j s) transposes_S256x64x1_S256x1x64_0_2_1)))

/-- One round of the second loop on the factor. -/
def put1 (rows : IVec S1x64x1 32) (cols : IVec S1x1x64 32) (j : IVec S_ 32) (s L : FVec F S256x64x64 .f32) : FVec F S256x64x64 .f32 :=
  select (broadcastInDim S256x64x64 ![0, 1, 2] bcast_S1x1x64_S256x64x64_0_1_2 (cmpi .eq cols (broadcastInDim S1x1x64 ![] bcast_S_S1x1x64 j)))
    (broadcastInDim S256x64x64 ![0, 1, 2] bcast_S256x64x1_S256x64x64_0_1_2 (lcol rows j s)) L

section Round1
variable (V : Valuation τ sig (Elt F))

theorem round1_rows : afterL bodyI1 (after condOps1 V) (Proc.devRef .tc main_v62_0) = V (Proc.devRef .tc main_v62_0) := by
  simp only [afterL_cons, afterL_nil]
  after_reads_simp

theorem round1_cols : afterL bodyI1 (after condOps1 V) (Proc.devRef .tc main_v62_1) = V (Proc.devRef .tc main_v62_1) := by
  simp only [afterL_cons, afterL_nil]
  after_reads_simp

theorem round1_v5 : afterL bodyI1 (after condOps1 V) (Proc.devRef .tc main_v5) = V (Proc.devRef .tc main_v5) := by
  simp only [afterL_cons, afterL_nil]
  after_reads_simp

theorem round1_j : afterL bodyI1 (after condOps1 V) (Proc.devRef .tc main_v62_3) = addi (V (Proc.devRef .tc main_v62_3)) (constantI S_ 32 1#32) := by
  simp only [afterL_cons, afterL_nil]
  after_reads_simp
  rfl

theorem round1_s : afterL bodyI1 (after condOps1 V) (Proc.devRef .tc main_v62_4) = step1 (V (Proc.devRef .tc main_v62_0)) (V (Proc.devRef .tc main_v62_3)) (V (Proc.devRef .tc main_v62_4)) := by
  simp only [afterL_cons, afterL_nil]
  after_reads_simp [unaryIndexed_result_read, indexContents_cons, indexContents_empty, dropContentsCast]
  rfl

theorem round1_L : afterL bodyI1 (after condOps1 V) (Proc.devRef .tc main_v62_5) = put1 (V (Proc.devRef .tc main_v62_0)) (V (Proc.devRef .tc main_v62_1)) (V (Proc.devRef .tc main_v62_3)) (V (Proc.devRef .tc main_v62_4)) (V (Proc.devRef .tc main_v62_5)) := by
  simp only [afterL_cons, afterL_nil]
  after_reads_simp [unaryIndexed_result_read, indexContents_cons, indexContents_empty, dropContentsCast]
  rfl

theorem mid_v5 : afterL midI (after condOps0 V) (Proc.devRef .tc main_v5) = V (Proc.devRef .tc main_v5) := by
  simp only [afterL_cons, afterL_nil]
  after_reads_simp

theorem mid_rows : afterL midI (after condOps0 V) (Proc.devRef .tc main_v62_0) = rowsV := by
  simp only [afterL_cons, afterL_nil]
  after_reads_simp
  rfl

theorem mid_cols : afterL midI (after condOps0 V) (Proc.devRef .tc main_v62_1) = colsV := by
  simp only [afterL_cons, afterL_nil]
  after_reads_simp
  rfl

theorem mid_j : afterL midI (after condOps0 V) (Proc.devRef .tc main_v62_3) = constantI S_ 32 0#32 := by
  simp only [afterL_cons, afterL_nil]
  after_reads_simp
  rfl

theorem mid_s : afterL midI (after condOps0 V) (Proc.devRef .tc main_v62_4) = extractStridedSlice S256x64x64 ![0, 0, 64] (V (Proc.devRef .tc main_v55_3)) slices_S256x64x128_S256x64x64_0_0_64 := by
  simp only [afterL_cons, afterL_nil]
  after_reads_simp
  rfl

theorem mid_L : afterL midI (after condOps0 V) (Proc.devRef .tc main_v62_5) = broadcastInDim S256x64x64 ![] bcast_S_S256x64x64 (constant S_ .f32 0x00000000#32) := by
  simp only [afterL_cons, afterL_nil]
  after_reads_simp
  rfl

theorem post_v63 : afterL postI (after condOps1 V) (Proc.devRef .tc main_v63) = Host.dotGeneral dot_S256x64x64_S256x64x4096_S256x64x4096_1_1_2_2_0_0 none (V (Proc.devRef .tc main_v62_5)) (V (Proc.devRef .tc main_v5)) := by
  simp only [afterL_cons, afterL_nil]
  after_reads_simp

theorem pre_arg0 : afterL preI V (Proc.devRef .tc main_arg0) = V (Proc.devRef .tc main_arg0) := by
  simp only [afterL_cons, afterL_nil]
  after_reads_simp

theorem round0_arg0 : afterL bodyI0 (after condOps0 V) (Proc.devRef .tc main_arg0) = V (Proc.devRef .tc main_arg0) := by
  simp only [afterL_cons, afterL_nil]
  after_reads_simp

theorem mid_arg0 : afterL midI (after condOps0 V) (Proc.devRef .tc main_arg0) = V (Proc.devRef .tc main_arg0) := by
  simp only [afterL_cons, afterL_nil]
  after_reads_simp

theorem round1_arg0 : afterL bodyI1 (after condOps1 V) (Proc.devRef .tc main_arg0) = V (Proc.devRef .tc main_arg0) := by
  simp only [afterL_cons, afterL_nil]
  after_reads_simp

theorem post_arg0 : afterL postI (after condOps1 V) (Proc.devRef .tc main_arg0) = V (Proc.devRef .tc main_arg0) := by
  simp only [afterL_cons, afterL_nil]
  after_reads_simp

end Round1

/-- The rows before round `k` of the first loop. -/
def aug (x : FVec F S256x64x4096 .f32) : ℕ → FVec F S256x64x128 .f32
  | 0 => aug0 x
  | k + 1 => step0 rowsV (fun _ => BitVec.ofNat 32 k) (aug x k)

/-- The matrix and the factor before round `k` of the second loop. -/
def fac (q : FVec F S256x64x64 .f32) : ℕ → FVec F S256x64x64 .f32 × FVec F S256x64x64 .f32
  | 0 => (q, broadcastInDim S256x64x64 ![] bcast_S_S256x64x64 (constant S_ .f32 0x00000000#32))
  | k + 1 => (step1 rowsV (fun _ => BitVec.ofNat 32 k) (fac q k).1, put1 rowsV colsV (fun _ => BitVec.ofNat 32 k) (fac q k).1 (fac q k).2)

/-- What the reference computes from its argument. -/
def outR (x : FVec F S256x64x4096 .f32) : FVec F S256x64x4096 .f32 :=
  Host.dotGeneral dot_S256x64x64_S256x64x4096_S256x64x4096_1_1_2_2_0_0 none
    (fac (extractStridedSlice S256x64x64 ![0, 0, 64] (aug x 64) slices_S256x64x128_S256x64x64_0_0_64) 64).2 (rcen x)

theorem count_succ (k : ℕ) : addi (fun _ : S_.Idx => BitVec.ofNat 32 k) (constantI S_ 32 1#32) = fun _ => BitVec.ofNat 32 (k + 1) := by
  funext i
  show BitVec.ofNat 32 k + 1#32 = _
  rw [← BitVec.ofNat_add]

section Trips
variable (m : (ℓ : Loc nD τ sig) → Buf (Elt F) ℓ) (c : Dev nD)

/-- The argument's contents at launch. -/
abbrev argOf : FVec F S256x64x4096 .f32 := launchContents m c (Proc.devRef .tc main_arg0)

structure Mid0 (k : ℕ) : Prop where
  rows : trip0 m k c (Proc.devRef .tc main_v55_0) = rowsV
  j : trip0 m k c (Proc.devRef .tc main_v55_2) = fun _ => BitVec.ofNat 32 k
  aug : trip0 m k c (Proc.devRef .tc main_v55_3) = aug (argOf m c) k
  v5 : trip0 m k c (Proc.devRef .tc main_v5) = rcen (argOf m c)
  arg : trip0 m k c (Proc.devRef .tc main_arg0) = argOf m c

theorem mid0 : ∀ k, Mid0 m c k
  | 0 => ⟨entry_rows m c, entry_j m c, entry_aug m c, entry_v5 m c, pre_arg0 _⟩
  | k + 1 => by
    have h := mid0 k
    refine ⟨(round0_rows _).trans h.rows, (round0_j (trip0 m k c)).trans ?_, (round0_aug (trip0 m k c)).trans ?_, (round0_v5 _).trans h.v5, (round0_arg0 _).trans h.arg⟩
    · rw [h.j]
      exact count_succ k
    · rw [h.rows, h.j, h.aug]
      rfl

structure Mid1 (k : ℕ) : Prop where
  rows : trip1 m k c (Proc.devRef .tc main_v62_0) = rowsV
  cols : trip1 m k c (Proc.devRef .tc main_v62_1) = colsV
  j : trip1 m k c (Proc.devRef .tc main_v62_3) = fun _ => BitVec.ofNat 32 k
  s : trip1 m k c (Proc.devRef .tc main_v62_4) = (fac (extractStridedSlice S256x64x64 ![0, 0, 64] (Cert.RefRead.aug (argOf m c) 64) slices_S256x64x128_S256x64x64_0_0_64) k).1
  L : trip1 m k c (Proc.devRef .tc main_v62_5) = (fac (extractStridedSlice S256x64x64 ![0, 0, 64] (Cert.RefRead.aug (argOf m c) 64) slices_S256x64x128_S256x64x64_0_0_64) k).2
  v5 : trip1 m k c (Proc.devRef .tc main_v5) = rcen (argOf m c)
  arg : trip1 m k c (Proc.devRef .tc main_arg0) = argOf m c

theorem mid1 : ∀ k, Mid1 m c k
  | 0 => by
    have h := mid0 m c 64
    refine ⟨mid_rows (trip0 m 64 c), mid_cols (trip0 m 64 c), mid_j (trip0 m 64 c), (mid_s (trip0 m 64 c)).trans ?_, mid_L (trip0 m 64 c),
      (mid_v5 (trip0 m 64 c)).trans h.v5, (mid_arg0 (trip0 m 64 c)).trans h.arg⟩
    rw [h.aug]
    rfl
  | k + 1 => by
    have h := mid1 k
    refine ⟨(round1_rows _).trans h.rows, (round1_cols _).trans h.cols, (round1_j (trip1 m k c)).trans ?_, (round1_s (trip1 m k c)).trans ?_,
      (round1_L (trip1 m k c)).trans ?_, (round1_v5 _).trans h.v5, (round1_arg0 _).trans h.arg⟩
    · rw [h.j]
      exact count_succ k
    · rw [h.rows, h.j, h.s]
      rfl
    · rw [h.rows, h.cols, h.j, h.s, h.L]
      rfl

/-- The result buffer at the end. -/
theorem end_v63 : endV m c (Proc.devRef .tc main_v63) = outR (argOf m c) := by
  have h := mid1 m c 64
  refine (post_v63 (trip1 m 64 c)).trans ?_
  rw [h.L, h.v5]
  rfl

/-- The argument buffer at the end. -/
theorem end_arg0 : endV m c (Proc.devRef .tc main_arg0) = argOf m c :=
  (post_arg0 (trip1 m 64 c)).trans (mid1 m c 64).arg

end Trips

end Cert.RefRead

end
-- ==== Proof.RefVal.lean ====
/- The values the reference computes, batch by batch, on real signals: the same whitened signals as the kernel's. -/
module

public import proofs.«01_k».proof.Proof.RefRead
public import proofs.«01_k».proof.Proof.KElim

@[expose] public section

set_option maxRecDepth 16384

noncomputable section

namespace Cert.RefVal

open Cert.ReferenceIdeal Cert.ReferenceIdeal.Gen Cert.RefRead Cert.Words Cert.Elim Cert.Shrink
open Cert.KElim (wd wd_left wd_right)
open Idealize.ShloMosaic Idealize.ShloMosaic.TcCoe Idealize.ShloMosaic.Tactic
open Idealize.ShloMosaic.StableHlo

/-- A loop's index word is its own number. -/
theorem wrap_first (n : BitVec 32) (p : Fin 64) : ((wrapJ n (fun _ => BitVec.ofNat 32 p.val)) (Shape.Idx.first h_S_)).toInt = p.val := by
  have h1 : ∀ p : Fin 64, IntOp.cmpi .slt (BitVec.ofNat 32 p.val) 0#32 = 0#1 := by decide
  have h2 : ∀ p : Fin 64, (BitVec.ofNat 32 p.val).toInt = p.val := by decide
  show (Scalar.select (IntOp.cmpi .slt (BitVec.ofNat 32 p.val) 0#32) (IntOp.addi (BitVec.ofNat 32 p.val) n) (BitVec.ofNat 32 p.val)).toInt = _
  rw [h1 p]
  exact h2 p

/-- A slice read at an index, from its start inside the operand. -/
theorem dyn {α : Type} {s t : Shape} (x : s.Idx → α) (start : Fin s.rank → Int) (h : s.Slices (fun _ => 0) t) (j : t.Idx) (i : s.Idx) (k : Fin s.rank → ℕ)
    (hk : ∀ a, start a = k a) (hle : ∀ a, k a + t.size (a.cast h.1.symm) ≤ s.size a) (hi : ∀ a, (i a).val = k a + (j (a.cast h.1.symm)).val) :
    Host.dynamicSlice t x start h j = x i := by
  rw [Host.dynamicSlice_apply]
  refine congrArg x ?_
  rw [Shape.Idx.norm_def]
  funext a
  refine Fin.ext ?_
  show Host.clampedStart s t h.1 start a + _ = _
  rw [Host.clampedStart_of_le h.1 start a (k a) (hk a) (hle a), hi]

theorem start_last (n : BitVec 32) (p : Fin 64) : ∀ a, start3 (constantI S_ 32 0#32) (constantI S_ 32 0#32) (wrapJ n (fun _ => BitVec.ofNat 32 p.val)) a = ((![0, 0, p.val] : Fin 3 → ℕ) a : Int)
  | 0 => rfl
  | 1 => rfl
  | 2 => wrap_first n p

theorem start_mid (n : BitVec 32) (p : Fin 64) : ∀ a, start3 (constantI S_ 32 0#32) (wrapJ n (fun _ => BitVec.ofNat 32 p.val)) (constantI S_ 32 0#32) a = ((![0, p.val, 0] : Fin 3 → ℕ) a : Int)
  | 0 => rfl
  | 1 => wrap_first n p
  | 2 => rfl

/-- Splits a fact about three axes. -/
theorem axes {P : Fin 3 → Prop} (h0 : P 0) (h1 : P 1) (h2 : P 2) : ∀ a, P a
  | 0 => h0
  | 1 => h1
  | 2 => h2

theorem colOf_at (a : FVec Ideal S256x64x128 .f32) (p : Fin 64) (b : Fin 256) (r : Fin 64) :
    (colOf (fun _ => BitVec.ofNat 32 p.val) a (ix3 b r 0) : EReal) = (a (ix3 b r ⟨p.val, by omega⟩) : EReal) :=
  dyn a _ _ _ _ ![0, 0, p.val] (start_last 128#32 p) (axes (show 0 + 256 ≤ 256 by omega) (show 0 + 64 ≤ 64 by omega) (show p.val + 1 ≤ 128 by omega))
    (axes (show b.val = 0 + b.val by omega) (show r.val = 0 + r.val by omega) (show p.val = p.val + 0 by omega))

theorem rowOf_at (a : FVec Ideal S256x64x128 .f32) (p : Fin 64) (b : Fin 256) (l : Fin 128) :
    (rowOf (fun _ => BitVec.ofNat 32 p.val) a (ix3 b 0 l) : EReal) = (a (ix3 b p l) : EReal) :=
  dyn a _ _ _ _ ![0, p.val, 0] (start_mid 64#32 p) (axes (show 0 + 256 ≤ 256 by omega) (show p.val + 1 ≤ 64 by omega) (show 0 + 128 ≤ 128 by omega))
    (axes (show b.val = 0 + b.val by omega) (show p.val = p.val + 0 by omega) (show l.val = 0 + l.val by omega))

theorem pivOf_at (a : FVec Ideal S256x1x128 .f32) (p : Fin 64) (b : Fin 256) :
    (pivOf (fun _ => BitVec.ofNat 32 p.val) a (ix3 b 0 0) : EReal) = (a (ix3 b 0 ⟨p.val, by omega⟩) : EReal) :=
  dyn a _ _ _ _ ![0, 0, p.val] (start_last 128#32 p) (axes (show 0 + 256 ≤ 256 by omega) (show 0 + 1 ≤ 1 by omega) (show p.val + 1 ≤ 128 by omega))
    (axes (show b.val = 0 + b.val by omega) (show 0 = 0 + 0 by omega) (show p.val = p.val + 0 by omega))

theorem colF_at (a : FVec Ideal S256x64x64 .f32) (p : Fin 64) (b : Fin 256) (r : Fin 64) :
    (colF (fun _ => BitVec.ofNat 32 p.val) a (ix3 b r 0) : EReal) = (a (ix3 b r p) : EReal) :=
  dyn a _ _ _ _ ![0, 0, p.val] (start_last 64#32 p) (axes (show 0 + 256 ≤ 256 by omega) (show 0 + 64 ≤ 64 by omega) (show p.val + 1 ≤ 64 by omega))
    (axes (show b.val = 0 + b.val by omega) (show r.val = 0 + r.val by omega) (show p.val = p.val + 0 by omega))

theorem pivF_at (a : FVec Ideal S256x64x1 .f32) (p : Fin 64) (b : Fin 256) :
    (pivF (fun _ => BitVec.ofNat 32 p.val) a (ix3 b 0 0) : EReal) = (a (ix3 b p 0) : EReal) :=
  dyn a _ _ _ _ ![0, p.val, 0] (start_mid 64#32 p) (axes (show 0 + 256 ≤ 256 by omega) (show p.val + 1 ≤ 64 by omega) (show 0 + 1 ≤ 1 by omega))
    (axes (show b.val = 0 + b.val by omega) (show p.val = p.val + 0 by omega) (show 0 = 0 + 0 by omega))

/-- The identity's entry, from the comparison of its two numbers. -/
theorem eye_word (r l : ℕ) (hr : r < 2 ^ 32) (hl : l < 2 ^ 32) :
    (FloatOps.uitofp (F := Ideal) .f32 (IntOp.cmpi .eq (IntOp.addi (BitVec.ofNat 32 r) 0#32) (BitVec.ofNat 32 l)) : EReal) = ((if r = l then 1 else 0 : ℝ) : EReal) := by
  have e : IntOp.addi (BitVec.ofNat 32 r) 0#32 = BitVec.ofNat 32 r := BitVec.add_zero _
  have h := sel_eq (α := ℝ) r l hr hl 1 0
  rw [e, ← h]
  rcases BitVec.eq_zero_or_eq_one (IntOp.cmpi .eq (BitVec.ofNat 32 r) (BitVec.ofNat 32 l)) with h | h <;> rw [h] <;>
    simp [FloatOps.uitofp, Scalar.select]

/-- Signals whose entries are the reals `X`. -/
def RealSig (x : FVec Ideal S256x64x4096 .f32) (X : Fin 256 → Sig) : Prop := ∀ b c m, (x (ix3 b c m) : EReal) = ((X b c m : ℝ) : EReal)

section Pre
variable {x : FVec Ideal S256x64x4096 .f32} {X : Fin 256 → Sig} (hx : RealSig x X)
include hx

theorem rcen_at (b : Fin 256) (c : Fin 64) (m : Fin 4096) : (rcen x (ix3 b c m) : EReal) = ((cen (X b) c m : ℝ) : EReal) := by
  have h : (rcen x (ix3 b c m) : EReal) = (x (ix3 b c m) : EReal) - Ideal.div (∑ m' : Fin 4096, (x (ix3 b c m') : EReal)) (Ideal.ofBits .f32 1166016512#32) := by
    pointwise [rcen]
  rw [h, hx, Finset.sum_congr rfl fun m' _ => hx b c m', sum_coe, c4096, div_coe _ _ (by norm_num), ← EReal.coe_sub]
  rfl

theorem rcov_at (b : Fin 256) (r l : Fin 64) : (rcov (rcen x) (ix3 b r l) : EReal) = ((cov (cen (X b)) r l : ℝ) : EReal) := by
  have h : (rcov (rcen x) (ix3 b r l) : EReal) = Ideal.div (∑ m : Fin 4096, (rcen x (ix3 b r m) : EReal) * (rcen x (ix3 b l m) : EReal)) (Ideal.ofBits .f32 1166016512#32) := by
    pointwise [rcov]
  rw [h, Finset.sum_congr rfl fun m _ => by rw [rcen_at hx, rcen_at hx, ← EReal.coe_mul], sum_coe, c4096, div_coe _ _ (by norm_num)]
  rfl

theorem rtr_at (b : Fin 256) : (up (rtr (rcov (rcen x))) (ix3 b 0 0) : EReal) = ((tr (cov (cen (X b))) : ℝ) : EReal) := by
  have h : (up (rtr (rcov (rcen x))) (ix3 b 0 0) : EReal) = ∑ r : Fin 64, ∑ l : Fin 64,
      Scalar.select (IntOp.cmpi .eq (IntOp.addi (BitVec.ofNat 32 r.val) 0#32) (BitVec.ofNat 32 l.val)) (rcov (rcen x) (ix3 b r l) : EReal) 0 := by
    pointwise [rtr, diag]
  rw [h]
  unfold tr
  rw [← sum_coe]
  refine Finset.sum_congr rfl fun r _ => ?_
  have e : IntOp.addi (BitVec.ofNat 32 r.val) 0#32 = BitVec.ofNat 32 r.val := BitVec.add_zero _
  rw [e, Finset.sum_eq_single r]
  · rw [sel_eq _ _ (by omega) (by omega), if_pos rfl, rcov_at hx]
  · intro l _ hl
    rw [sel_eq _ _ (by omega) (by omega), if_neg (fun e => hl (Fin.ext e.symm))]
  · exact fun hn => absurd (Finset.mem_univ r) hn

theorem rt2_at (b : Fin 256) : (up (rt2 (rcov (rcen x))) (ix3 b 0 0) : EReal) = ((t2 (cov (cen (X b))) : ℝ) : EReal) := by
  have h : (up (rt2 (rcov (rcen x))) (ix3 b 0 0) : EReal) = ∑ r : Fin 64, ∑ l : Fin 64,
      (rcov (rcen x) (ix3 b r l) : EReal) * (rcov (rcen x) (ix3 b l r) : EReal) := by
    pointwise [rt2]
  rw [h]
  unfold t2
  rw [← sum_coe]
  refine Finset.sum_congr rfl fun r _ => ?_
  rw [← sum_coe]
  refine Finset.sum_congr rfl fun l _ => ?_
  rw [rcov_at hx, rcov_at hx, cov_symm (cen (X b)) l r, EReal.coe_mul]

variable (b : Fin 256) (ht : tr (cov (cen (X b))) ≠ 0)
include ht

theorem rrho_at : (rrho (up (rtr (rcov (rcen x)))) (up (rt2 (rcov (rcen x)))) (ix3 b 0 0) : EReal) = ((rho (cov (cen (X b))) : ℝ) : EReal) := by
  have h : ∀ t q : FVec Ideal S256x1x1 .f32, (rrho t q (ix3 b 0 0) : EReal) = min
      (Ideal.div (Ideal.ofBits .f32 1065345024#32 * (q (ix3 b 0 0) : EReal) + (t (ix3 b 0 0) : EReal) * (t (ix3 b 0 0) : EReal))
        (Ideal.ofBits .f32 1166020608#32 * ((q (ix3 b 0 0) : EReal) - Ideal.div ((t (ix3 b 0 0) : EReal) * (t (ix3 b 0 0) : EReal)) (Ideal.ofBits .f32 1115684864#32)))) 1 := by
    intro t q
    pointwise [rrho]
  rw [h, rt2_at hx, rtr_at hx, cNum, cDen, c64]
  exact rho_min _ ht

theorem rshr_at (r l : Fin 64) : (rshr (up (rtr (rcov (rcen x)))) (up (rt2 (rcov (rcen x)))) (rcov (rcen x)) reye (ix3 b r l) : EReal)
    = ((shr (cov (cen (X b))) r l : ℝ) : EReal) := by
  have h : ∀ t q : FVec Ideal S256x1x1 .f32, (rshr t q (rcov (rcen x)) reye (ix3 b r l) : EReal)
      = (rrho t q (ix3 b 0 0) : EReal) * (Ideal.div (t (ix3 b 0 0) : EReal) (Ideal.ofBits .f32 1115684864#32)
          * (FloatOps.uitofp (F := Ideal) .f32 (IntOp.cmpi .eq (IntOp.addi (BitVec.ofNat 32 r.val) 0#32) (BitVec.ofNat 32 l.val)) : EReal))
        + (1 - (rrho t q (ix3 b 0 0) : EReal)) * (rcov (rcen x) (ix3 b r l) : EReal) := by
    intro t q
    pointwise [rshr, reye, diag]
  rw [h, rrho_at hx b ht, rtr_at hx, rcov_at hx, c64, div_coe _ _ (by norm_num), eye_word _ _ (by omega) (by omega)]
  unfold shr
  rw [← EReal.coe_one, ← EReal.coe_mul, ← EReal.coe_mul, ← EReal.coe_sub, ← EReal.coe_mul, ← EReal.coe_add]
  congr 1
  by_cases e : r = l
  · rw [if_pos e, if_pos (congrArg Fin.val e)]
    ring
  · rw [if_neg e, if_neg (fun h => e (Fin.ext h))]
    ring

theorem aug0_at (r : Fin 64) (l : Fin 128) : (aug0 x (ix3 b r l) : EReal) = ((wd (reduce (shr (cov (cen (X b)))) 0) r l : ℝ) : EReal) := by
  have h : ∀ v : FVec Ideal S256x64x64 .f32, (raug v diag (ix3 b r l) : EReal) = if h : l.val < 64 then (v (ix3 b r ⟨l.val, h⟩) : EReal)
      else (FloatOps.uitofp (F := Ideal) .f32 (IntOp.cmpi .eq (IntOp.addi (BitVec.ofNat 32 r.val) 0#32) (BitVec.ofNat 32 (l.val - 64))) : EReal) := by
    intro v
    pointwise [raug, diag]
  unfold aug0 wd
  rw [h]
  by_cases hl : l.val < 64
  · rw [dif_pos hl, dif_pos hl, rshr_at hx b ht]
    rfl
  · rw [dif_neg hl, dif_neg hl, eye_word _ _ (by omega) (by omega)]
    simp only [reduce, Fin.ext_iff]

/-- The rows before each round of the first loop are the reduction's. -/
theorem aug_at (k : ℕ) (hk : k ≤ 64) (r : Fin 64) (l : Fin 128) : (aug x k (ix3 b r l) : EReal) = ((wd (reduce (shr (cov (cen (X b)))) k) r l : ℝ) : EReal) := by
  induction k generalizing r l with
  | zero => exact aug0_at hx b ht r l
  | succ k ih =>
    have ih := ih (by omega)
    obtain ⟨p, rfl⟩ : ∃ p : Fin 64, p.val = k := ⟨⟨k, by omega⟩, rfl⟩
    have hd := ReduceInv.pivot_pos (shr_pos (cen (X b)) ht) p (reduce_inv (shr_pos (cen (X b)) ht) p.val (by omega))
    have hrow : ∀ a : FVec Ideal S256x64x128 .f32, (rowDiv (fun _ => BitVec.ofNat 32 p.val) a (ix3 b 0 l) : EReal)
        = Ideal.div (a (ix3 b p l) : EReal) (a (ix3 b p ⟨p.val, by omega⟩) : EReal) := by
      intro a
      rw [← rowOf_at a p b l, ← rowOf_at a p b ⟨p.val, by omega⟩, ← pivOf_at (rowOf _ a) p b]
      pointwise [rowDiv]
    have h : ∀ a : FVec Ideal S256x64x128 .f32, (step0 rowsV (fun _ => BitVec.ofNat 32 p.val) a (ix3 b r l) : EReal)
        = if r.val = p.val then (rowDiv (fun _ => BitVec.ofNat 32 p.val) a (ix3 b 0 l) : EReal)
          else (a (ix3 b r l) : EReal) - (colOf (fun _ => BitVec.ofNat 32 p.val) a (ix3 b r 0) : EReal) * (rowDiv (fun _ => BitVec.ofNat 32 p.val) a (ix3 b 0 l) : EReal) := by
      intro a
      rw [← sel_eq (α := EReal) r.val p.val (by omega) (by omega)]
      pointwise [step0, rowsV]
    show (step0 rowsV (fun _ => BitVec.ofNat 32 p.val) (aug x p.val) (ix3 b r l) : EReal) = _
    rw [h, hrow, colOf_at, ih, ih, ih, ih, wd_left _ p p ⟨p.val, by omega⟩ rfl, wd_left _ r p ⟨p.val, by omega⟩ rfl, div_coe _ _ hd.ne', ← EReal.coe_mul, ← EReal.coe_sub]
    unfold wd
    by_cases hl : l.val < 64
    · simp only [dif_pos hl, reduce_fst_succ, Fin.ext_iff]
      split <;> rfl
    · simp only [dif_neg hl, reduce_snd_succ, Fin.ext_iff]
      split <;> rfl

end Pre

/-- Whether a row is at or below the pivot. -/
theorem sge_word : ∀ r p : Fin 64, IntOp.cmpi .sge (BitVec.ofNat 32 r.val) (BitVec.ofNat 32 p.val) = if p ≤ r then 1#1 else 0#1 := by decide +kernel

/-- The matrix and the factor before each round of the second loop are the factorization's. -/
theorem fac_at {A : Sq} (hA : Pos A) (hs : ∀ r l, A r l = A l r) (q : FVec Ideal S256x64x64 .f32) (b : Fin 256)
    (hq : ∀ r c, (q (ix3 b r c) : EReal) = (((reduce A 64).2 r c : ℝ) : EReal)) (k : ℕ) (hk : k ≤ 64) :
    (∀ r c, ((fac q k).1 (ix3 b r c) : EReal) = (((colFac (reduce A 64).2 k).1 r c : ℝ) : EReal))
      ∧ ∀ r c, ((fac q k).2 (ix3 b r c) : EReal) = (((colFac (reduce A 64).2 k).2 r c : ℝ) : EReal) := by
  induction k with
  | zero =>
    refine ⟨hq, fun r c => ?_⟩
    have : (broadcastInDim S256x64x64 ![] bcast_S_S256x64x64 (constant (F := Ideal) S_ .f32 0x00000000#32) (ix3 b r c) : EReal) = 0 := by
      pointwise
    exact this
  | succ k ih =>
    obtain ⟨ih1, ih2⟩ := ih (by omega)
    obtain ⟨p, rfl⟩ : ∃ p : Fin 64, p.val = k := ⟨⟨k, by omega⟩, rfl⟩
    have hd := agree_pivot_pos hA hs p
    have hl : ∀ s : FVec Ideal S256x64x64 .f32, ∀ r, (lcol rowsV (fun _ => BitVec.ofNat 32 p.val) s (ix3 b r 0) : EReal)
        = Scalar.select (if p ≤ r then 1#1 else 0#1) (Ideal.div (s (ix3 b r p) : EReal) (Ideal.sqrt (s (ix3 b p p) : EReal))) 0 := by
      intro s r
      rw [← sge_word, ← colF_at s p b r, ← colF_at s p b p, ← pivF_at (colF _ s) p b]
      pointwise [lcol, rowsV]
    have hc : ∀ r, (lcol rowsV (fun _ => BitVec.ofNat 32 p.val) (fac q p.val).1 (ix3 b r 0) : EReal) = ((col (reduce A 64).2 p r : ℝ) : EReal) := by
      intro r
      rw [hl, ih1, ih1, sqrt_coe _ hd, div_coe _ _ (Real.sqrt_pos.mpr hd).ne']
      unfold col
      by_cases h : p ≤ r
      · rw [if_pos h, if_pos h]; rfl
      · rw [if_neg h, if_neg h]; rfl
    constructor
    · intro r c
      have h : ∀ s : FVec Ideal S256x64x64 .f32, (step1 rowsV (fun _ => BitVec.ofNat 32 p.val) s (ix3 b r c) : EReal) = (s (ix3 b r c) : EReal)
          - (lcol rowsV (fun _ => BitVec.ofNat 32 p.val) s (ix3 b r 0) : EReal) * (lcol rowsV (fun _ => BitVec.ofNat 32 p.val) s (ix3 b c 0) : EReal) := by
        intro s
        pointwise [step1]
      show (step1 rowsV (fun _ => BitVec.ofNat 32 p.val) (fac q p.val).1 (ix3 b r c) : EReal) = _
      rw [h, hc, hc, ih1, ← EReal.coe_mul, ← EReal.coe_sub, colFac_fst_succ]
    · intro r c
      have h : ∀ s L : FVec Ideal S256x64x64 .f32, (put1 rowsV colsV (fun _ => BitVec.ofNat 32 p.val) s L (ix3 b r c) : EReal)
          = if c.val = p.val then (lcol rowsV (fun _ => BitVec.ofNat 32 p.val) s (ix3 b r 0) : EReal) else (L (ix3 b r c) : EReal) := by
        intro s L
        rw [← sel_eq (α := EReal) c.val p.val (by omega) (by omega)]
        pointwise [put1, colsV]
      show (put1 rowsV colsV (fun _ => BitVec.ofNat 32 p.val) (fac q p.val).1 (fac q p.val).2 (ix3 b r c) : EReal) = _
      rw [h, hc, ih2, colFac_snd_succ]
      simp only [Fin.ext_iff]
      split <;> rfl

/-- What the reference computes of real signals is the whitened signals. -/
theorem outR_at {x : FVec Ideal S256x64x4096 .f32} {X : Fin 256 → Sig} (hx : RealSig x X) (b : Fin 256) (c : Fin 64) (m : Fin 4096) :
    (outR x (ix3 b c m) : EReal) = ((out (X b) c m : ℝ) : EReal) := by
  have h : (outR x (ix3 b c m) : EReal) = ∑ d : Fin 64,
      ((fac (extractStridedSlice S256x64x64 ![0, 0, 64] (aug x 64) slices_S256x64x128_S256x64x64_0_0_64) 64).2 (ix3 b d c) : EReal) * (rcen x (ix3 b d m) : EReal) := by
    pointwise [outR]
  rw [h]
  unfold out
  by_cases ht : tr (cov (cen (X b))) = 0
  · have hz := zero_of_tr _ ht
    simp only [hz, mul_zero, Finset.sum_const_zero, EReal.coe_zero]
    refine Finset.sum_eq_zero fun d _ => ?_
    rw [rcen_at hx, hz, EReal.coe_zero, mul_zero]
  · have hA := shr_pos (cen (X b)) ht
    have hs := shr_symm (cen (X b))
    have hq : ∀ r c, (extractStridedSlice S256x64x64 ![0, 0, 64] (aug x 64) slices_S256x64x128_S256x64x64_0_0_64 (ix3 b r c) : EReal)
        = (((reduce (shr (cov (cen (X b)))) 64).2 r c : ℝ) : EReal) := by
      intro r c
      have : (extractStridedSlice S256x64x64 ![0, 0, 64] (aug x 64) slices_S256x64x128_S256x64x64_0_0_64 (ix3 b r c) : EReal) = (aug x 64 (ix3 b r ⟨64 + c.val, by omega⟩) : EReal) := by
        pointwise
      rw [this, aug_at hx b ht 64 le_rfl, wd_right _ r c _ rfl]
    rw [← sum_coe]
    refine Finset.sum_congr rfl fun d _ => ?_
    rw [(fac_at hA hs _ b hq 64 le_rfl).2, rcen_at hx, agree hA hs, EReal.coe_mul]

end Cert.RefVal

end
-- ==== Proof.Ends.lean ====
/- The two programs, end against end: on finite signals the idealized kernel's result is the reference's. -/
module

public import proofs.«01_k».proof.Defs
public import proofs.«01_k».proof.Proof.Gen.Pre_finite
public import proofs.«01_k».proof.Proof.KEnd
public import proofs.«01_k».proof.Proof.KOut
public import proofs.«01_k».proof.Proof.RefVal
public import Idealize.ShloMosaic.Lib.Quiescent
public import Idealize.ShloMosaic.Lib.ReduceAll

@[expose] public section

set_option maxRecDepth 16384

noncomputable section

namespace Cert.Ends

open Idealize.ShloMosaic Idealize.ShloMosaic.TcCoe Idealize.SL.Sem Cert.Shrink

/-- An extended real whose absolute value compares below the word of infinity is a real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  have hlt : max x (-x) < ⊤ := by
    by_contra hn
    rw [decide_eq_false hn] at h'
    exact absurd h' (by decide)
  refine EReal.coe_toReal (fun e => ?_) (fun e => ?_)
  · subst e; simp at hlt
  · subst e; simp at hlt

/-- Under the precondition every signal is real. -/
theorem real_of_pre (x : FVec Ideal Cert.Pre_finite.S256x64x4096 .f32) (h : Cert.Pre_finite.fn (F := Ideal) x = fun _ => 1#1) :
    Cert.RefVal.RealSig x (fun b c m => (x (ix3 b c m) : EReal).toReal) := fun b c m => by
  have : Subsingleton Cert.Pre_finite.S_.Idx := ⟨fun a b => funext fun i => i.elim0⟩
  have e := congrFun h (fun i => i.elim0)
  have := Host.reduce_andi_all _ _ _ _ _ e (ix3 b c m)
  exact (real_of_lt _ this).symm

/-- On real signals the kernel's result array is what the reference computes. -/
theorem same (x : FVec Ideal Cert.KernelIdeal.S256x64x4096 .f32) {X : Fin 256 → Sig} (hx : Cert.RefVal.RealSig x X) :
    Cert.KEnd.outArr (F := Ideal) x = Cert.RefRead.outR (F := Ideal) x := by
  funext i
  obtain ⟨b, c, m, rfl⟩ : ∃ b c m, i = ix3 b c m := ⟨i 0, i 1, i 2, by
    funext a
    match a with
    | ⟨0, _⟩ => rfl
    | ⟨1, _⟩ => rfl
    | ⟨2, _⟩ => rfl⟩
  refine Eq.trans ?_ (Cert.RefVal.outR_at hx b c m).symm
  have hb : Cert.KVal.RealBlk (Cert.KEnd.inBlk (F := Ideal) x ⟨b.val / 8, by omega⟩) (fun k => X ⟨8 * (b.val / 8) + k.val, by omega⟩) := fun k c m => hx _ c m
  refine (Cert.KOut.outB_at hb ⟨b.val % 8, Nat.mod_lt _ (by decide)⟩ c m).trans ?_
  have e : (⟨8 * (b.val / 8) + b.val % 8, by omega⟩ : Fin 256) = b := Fin.ext (by show 8 * (b.val / 8) + b.val % 8 = b.val; omega)
  show ((out (X ⟨8 * (b.val / 8) + b.val % 8, _⟩) c m : ℝ) : EReal) = _
  rw [e]

/-- The reference ends with its result computed from its argument, and its argument unchanged. -/
theorem ref_result (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v63)
          = Cert.RefRead.outR (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)) :=
  (θ_run _ _ _).mono (fun r h c => ⟨(h c _ (by decide)).trans (Cert.RefRead.end_v63 m c), (h c _ (by decide)).trans (Cert.RefRead.end_arg0 m c)⟩)
    (Cert.RefRun.run_end m ρ)

/-- The reference's argument ends unchanged and every counter at zero. -/
theorem ref_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2, sem_eq_zero_of_no_sems (by decide) r.2⟩) (ref_result m ρ)

/-- The kernel and the reference end with equal results and unchanged arguments, on finite signals. -/
theorem agree : Cert.algebraic_KernelIdeal_ReferenceIdeal_pre_finite := fun m g m' g' hpre harg =>
  ⟨fun c => Cert.KEnd.outArr (F := Ideal) (m ((c.tc : Thread Cert.KernelIdeal.nD Cert.KernelIdeal.τ).loc Cert.KernelIdeal.main_arg0)),
    (θ_run _ _ _).mono (fun r h c => ⟨h.1 c, h.2.1 c⟩) (θ_run_and (Cert.KEnd.result m g) (Cert.KEnd.frame m g)),
    (θ_run _ _ _).mono (fun r h c => ⟨(h c).1.trans (by rw [harg c]; exact (same _ (real_of_pre _ (hpre c))).symm), (h c).2⟩) (ref_result m' g')⟩

end Cert.Ends

end
-- ==== Proof.lean ====
/- The certificate: frames of the kernel, its idealization and the reference, and the equality of results on finite signals.
   The modules under Proof/: Elim, Shrink and Words hold the mathematics; KLoop, KRun and KEnd run the kernel; KVal, KElim and KOut
   say what its body computes; RefLaunch, RefRun and RefRead run the reference; RefVal says what it computes; Ends compares the two, and
   Same carries the idealized kernel's frame to the kernel. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Same
public import proofs.«01_k».proof.Proof.Ends
public import Idealize.ShloMosaic.Adequacy
public import Idealize.ShloMosaic.Init

@[expose] public section

noncomputable section

namespace Cert.Proof

open Idealize.ShloMosaic Idealize.SL.Sem Cert.Kernel

/-- The frames of the kernel, of its idealization and of the reference, and the equality of the last two's results on finite signals. -/
theorem claim : Cert.Claim := ⟨Cert.Kernel.Gen.facts, Cert.KernelIdeal.Gen.facts, Cert.ReferenceIdeal.Gen.facts, Cert.Pre_finite.Gen.facts,
  Cert.Same.frame,
  fun m ρ _ => Cert.KEnd.frame m ρ,
  fun m ρ _ => Cert.KEnd.frame m ρ,
  fun m ρ _ => Cert.Ends.ref_frame m ρ,
  fun m ρ _ => Cert.Ends.ref_frame m ρ,
  trivial,
  Cert.Ends.agree⟩

end Cert.Proof

end
